-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hReference : Cert.Reference.Facts),
    quiescent_Kernel (hKernel := hKernel)
    ∧ quiescent_Reference (hReference := hReference)
    ∧ bitexact_Kernel_Reference (hKernel := hKernel) (hReference := hReference)
-- ==== Kernel.lean ====
abbrev S64x192x56x56 : Shape := ⟨4, ![64, 192, 56, 56]⟩
abbrev S64x56x56x192 : Shape := ⟨4, ![64, 56, 56, 192]⟩
abbrev S1x56x56x192 : Shape := ⟨4, ![1, 56, 56, 192]⟩
abbrev S56x56x192 : Shape := ⟨3, ![56, 56, 192]⟩
abbrev S3136x192 : Shape := ⟨2, ![3136, 192]⟩
abbrev S3136x128 : Shape := ⟨2, ![3136, 128]⟩
abbrev S3136x64 : Shape := ⟨2, ![3136, 64]⟩
abbrev S1568x64 : Shape := ⟨2, ![1568, 64]⟩
abbrev S1568x128 : Shape := ⟨2, ![1568, 128]⟩
abbrev S196x16x128 : Shape := ⟨3, ![196, 16, 128]⟩
abbrev S98x16x128 : Shape := ⟨3, ![98, 16, 128]⟩
abbrev S1x16x128 : Shape := ⟨3, ![1, 16, 128]⟩
abbrev S49x16x128 : Shape := ⟨3, ![49, 16, 128]⟩
abbrev S7x16x128 : Shape := ⟨3, ![7, 16, 128]⟩
abbrev S16x128 : Shape := ⟨2, ![16, 128]⟩
abbrev S1 : Shape := ⟨1, ![1]⟩
abbrev S1x1x1 : Shape := ⟨3, ![1, 1, 1]⟩

abbrev nBuf : Space → Nat
  | .hbm => 4
  | .vmem => 4
  | .smem => 0
  | _ => 0

abbrev bufTy : (tb : Table) → Fin (tcTables nBuf tb) → BufTy
  | .hbm, ⟨0, _⟩ => ⟨S64x192x56x56, .f32⟩
  | .hbm, ⟨1, _⟩ => ⟨S64x56x56x192, .f32⟩
  | .hbm, ⟨2, _⟩ => ⟨S64x56x56x192, .f32⟩
  | .hbm, ⟨3, _⟩ => ⟨S64x192x56x56, .f32⟩
  | .local _ .vmem, ⟨0, _⟩ => ⟨S1x56x56x192, .f32⟩
  | .local _ .vmem, ⟨1, _⟩ => ⟨S1x56x56x192, .f32⟩
  | .local _ .vmem, ⟨2, _⟩ => ⟨S1x56x56x192, .f32⟩
  | .local _ .vmem, ⟨3, _⟩ => ⟨S1x56x56x192, .f32⟩
  | _, _ => ⟨S64x192x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![64], ![false]⟩

@[reducible] def k0_t1_loop : Scf.Loop 32 :=
  let c0_i32_13 : BitVec 32 := 0#32
  let c15_i32 : BitVec 32 := 15#32
  let v119 : BitVec 32 := Scalar.addi c0_i32_13 c15_i32
  let c1_i32 : BitVec 32 := 1#32
  ⟨c0_i32_13, v119, c1_i32⟩
@[reducible] def k0_t2_loop : Scf.Loop 32 :=
  let c0_i32_56 : BitVec 32 := 0#32
  let c15_i32_57 : BitVec 32 := 15#32
  let v427 : BitVec 32 := Scalar.addi c0_i32_56 c15_i32_57
  let c1_i32_58 : BitVec 32 := 1#32
  ⟨c0_i32_56, v427, c1_i32_58⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x56x56x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x56x56x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S64x192x56x56 : Shape := ⟨4, ![64, 192, 56, 56]⟩
abbrev S64x602112 : Shape := ⟨2, ![64, 602112]⟩
abbrev S64x64 : Shape := ⟨2, ![64, 64]⟩
abbrev S64x1 : Shape := ⟨2, ![64, 1]⟩
abbrev S64 : Shape := ⟨1, ![64]⟩
abbrev S64x1x1x1 : Shape := ⟨4, ![64, 1, 1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S64x192x56x56, .f32⟩
  | .hbm, ⟨1, _⟩ => ⟨S64x602112, .f32⟩
  | .hbm, ⟨2, _⟩ => ⟨S64x64, .f32⟩
  | .hbm, ⟨3, _⟩ => ⟨S64x64, .i32⟩
  | .hbm, ⟨4, _⟩ => ⟨S64x1, .f32⟩
  | .hbm, ⟨5, _⟩ => ⟨S64, .f32⟩
  | .hbm, ⟨6, _⟩ => ⟨S64x1x1x1, .f32⟩
  | .hbm, ⟨7, _⟩ => ⟨S64x192x56x56, .f32⟩
  | .hbm, ⟨8, _⟩ => ⟨S64x192x56x56, .i1⟩
  | .hbm, ⟨9, _⟩ => ⟨S_, .f32⟩
  | .hbm, ⟨10, _⟩ => ⟨S64x192x56x56, .f32⟩
  | .hbm, ⟨11, _⟩ => ⟨S64x192x56x56, .f32⟩
  | _, _ => ⟨S64x192x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Model.lean ====
/- The kernel's block as ONE function of the block it reads (`kout`): the two counts, the search over sixteen bits, the
   conditional and the final mask, each a definition over whole vectors in the order the kernel computes them. -/
module

public import proofs.«01_k».proof.Proof.Gen.Kernel.Skeleton
public import Idealize.ShloMosaic.Lib.Exec

@[expose] public section

noncomputable section

namespace Cert.Proof.K

open Cert.Kernel Cert.Kernel.Gen
open Idealize.ShloMosaic

variable {F : FTy → Type} [BitOps F]

/-! ## Folding the leading axis -/

/-- 196 leading slabs to 98: the two halves added. -/
def add98 (m : IVec S196x16x128 16) : IVec S98x16x128 16 :=
  addi (extractStridedSlice S98x16x128 ![0, 0, 0] m slices_S196x16x128_o0_0_0_S98x16x128)
    (extractStridedSlice S98x16x128 ![98, 0, 0] m slices_S196x16x128_o98_0_0_S98x16x128)

/-- 98 to 49: the two halves added. -/
def add49 (m : IVec S98x16x128 16) : IVec S49x16x128 16 :=
  addi (extractStridedSlice S49x16x128 ![0, 0, 0] m slices_S98x16x128_o0_0_0_S49x16x128)
    (extractStridedSlice S49x16x128 ![49, 0, 0] m slices_S98x16x128_o49_0_0_S49x16x128)

/-- 49 to 7: seven runs added. -/
def add7 (m : IVec S49x16x128 16) : IVec S7x16x128 16 :=
  addi (addi (addi (addi (addi (addi
    (extractStridedSlice S7x16x128 ![0, 0, 0] m slices_S49x16x128_o0_0_0_S7x16x128)
    (extractStridedSlice S7x16x128 ![7, 0, 0] m slices_S49x16x128_o7_0_0_S7x16x128))
    (extractStridedSlice S7x16x128 ![14, 0, 0] m slices_S49x16x128_o14_0_0_S7x16x128))
    (extractStridedSlice S7x16x128 ![21, 0, 0] m slices_S49x16x128_o21_0_0_S7x16x128))
    (extractStridedSlice S7x16x128 ![28, 0, 0] m slices_S49x16x128_o28_0_0_S7x16x128))
    (extractStridedSlice S7x16x128 ![35, 0, 0] m slices_S49x16x128_o35_0_0_S7x16x128))
    (extractStridedSlice S7x16x128 ![42, 0, 0] m slices_S49x16x128_o42_0_0_S7x16x128)

/-- 7 to 1: seven slabs added. -/
def add1 (m : IVec S7x16x128 16) : IVec S1x16x128 16 :=
  addi (addi (addi (addi (addi (addi
    (extractStridedSlice S1x16x128 ![0, 0, 0] m slices_S7x16x128_o0_0_0_S1x16x128)
    (extractStridedSlice S1x16x128 ![1, 0, 0] m slices_S7x16x128_o1_0_0_S1x16x128))
    (extractStridedSlice S1x16x128 ![2, 0, 0] m slices_S7x16x128_o2_0_0_S1x16x128))
    (extractStridedSlice S1x16x128 ![3, 0, 0] m slices_S7x16x128_o3_0_0_S1x16x128))
    (extractStridedSlice S1x16x128 ![4, 0, 0] m slices_S7x16x128_o4_0_0_S1x16x128))
    (extractStridedSlice S1x16x128 ![5, 0, 0] m slices_S7x16x128_o5_0_0_S1x16x128))
    (extractStridedSlice S1x16x128 ![6, 0, 0] m slices_S7x16x128_o6_0_0_S1x16x128)

/-- One slab of 16-bit counts summed as 32-bit words. -/
def total (m : IVec S1x16x128 16) : BitVec 32 :=
  extractAt ![0, 0, 0] (shapeCast S1x1x1
    (multiReductionI .add [1, 2] S1
      (shapeCast S1x16x128 (extsi 32 (shapeCast S16x128 m shapeCasts_S1x16x128_S16x128) natLt_16_32)
        shapeCasts_S16x128_S1x16x128) 0#32 reduces_S1x16x128_S1 rfl) shapeCasts_S1_S1x1x1) inpos_S1x1x1_p0_0_0

/-- How many elements of the second part's mask are set. -/
def sumB (m : IVec S98x16x128 1) : BitVec 32 :=
  total (add1 (add7 (add49 (select m (broadcast S98x16x128 1#16) (broadcast S98x16x128 0#16)))))

/-- How many elements of the first part's mask are set. -/
def sumA (m : IVec S196x16x128 1) : BitVec 32 :=
  total (add1 (add7 (add49 (add98 (select m (broadcast S196x16x128 1#16) (broadcast S196x16x128 0#16))))))

/-! ## The same folds by the signed minimum -/

/-- 196 leading slabs to 98. -/
def min98 (m : IVec S196x16x128 32) : IVec S98x16x128 32 :=
  minsi (extractStridedSlice S98x16x128 ![0, 0, 0] m slices_S196x16x128_o0_0_0_S98x16x128)
    (extractStridedSlice S98x16x128 ![98, 0, 0] m slices_S196x16x128_o98_0_0_S98x16x128)

/-- 98 to 49. -/
def min49 (m : IVec S98x16x128 32) : IVec S49x16x128 32 :=
  minsi (extractStridedSlice S49x16x128 ![0, 0, 0] m slices_S98x16x128_o0_0_0_S49x16x128)
    (extractStridedSlice S49x16x128 ![49, 0, 0] m slices_S98x16x128_o49_0_0_S49x16x128)

/-- 49 to 7. -/
def min7 (m : IVec S49x16x128 32) : IVec S7x16x128 32 :=
  minsi (minsi (minsi (minsi (minsi (minsi
    (extractStridedSlice S7x16x128 ![0, 0, 0] m slices_S49x16x128_o0_0_0_S7x16x128)
    (extractStridedSlice S7x16x128 ![7, 0, 0] m slices_S49x16x128_o7_0_0_S7x16x128))
    (extractStridedSlice S7x16x128 ![14, 0, 0] m slices_S49x16x128_o14_0_0_S7x16x128))
    (extractStridedSlice S7x16x128 ![21, 0, 0] m slices_S49x16x128_o21_0_0_S7x16x128))
    (extractStridedSlice S7x16x128 ![28, 0, 0] m slices_S49x16x128_o28_0_0_S7x16x128))
    (extractStridedSlice S7x16x128 ![35, 0, 0] m slices_S49x16x128_o35_0_0_S7x16x128))
    (extractStridedSlice S7x16x128 ![42, 0, 0] m slices_S49x16x128_o42_0_0_S7x16x128)

/-- 7 to 1. -/
def min1 (m : IVec S7x16x128 32) : IVec S1x16x128 32 :=
  minsi (minsi (minsi (minsi (minsi (minsi
    (extractStridedSlice S1x16x128 ![0, 0, 0] m slices_S7x16x128_o0_0_0_S1x16x128)
    (extractStridedSlice S1x16x128 ![1, 0, 0] m slices_S7x16x128_o1_0_0_S1x16x128))
    (extractStridedSlice S1x16x128 ![2, 0, 0] m slices_S7x16x128_o2_0_0_S1x16x128))
    (extractStridedSlice S1x16x128 ![3, 0, 0] m slices_S7x16x128_o3_0_0_S1x16x128))
    (extractStridedSlice S1x16x128 ![4, 0, 0] m slices_S7x16x128_o4_0_0_S1x16x128))
    (extractStridedSlice S1x16x128 ![5, 0, 0] m slices_S7x16x128_o5_0_0_S1x16x128))
    (extractStridedSlice S1x16x128 ![6, 0, 0] m slices_S7x16x128_o6_0_0_S1x16x128)

/-- The least word of one slab. -/
def least (m : IVec S1x16x128 32) : BitVec 32 :=
  extractAt ![0, 0, 0] (shapeCast S1x1x1
    (multiReductionI .minsi [1, 2] S1
      (shapeCast S1x16x128 (shapeCast S16x128 m shapeCasts_S1x16x128_S16x128)
        shapeCasts_S16x128_S1x16x128) 2147483647#32 reduces_S1x16x128_S1 rfl) shapeCasts_S1_S1x1x1) inpos_S1x1x1_p0_0_0

/-- The least half of the second part. -/
def minB (z : IVec S98x16x128 16) : BitVec 32 := least (min1 (min7 (min49 (extsi 32 z natLt_16_32))))

/-- The least half of the first part. -/
def minA (z : IVec S196x16x128 16) : BitVec 32 := least (min1 (min7 (min49 (min98 (extsi 32 z natLt_16_32)))))

/-! ## The counts and the search -/

/-- A word's low half as one slab. -/
def slab (t : BitVec 32) : IVec S1x16x128 16 := trunci 16 (broadcast S1x16x128 t) natLt_16_32
/-- A word's low half at every element of the first part, -/
def spreadA (t : BitVec 32) : IVec S196x16x128 16 := broadcastTo S196x16x128 (slab t) broadcasts_S1x16x128_S196x16x128
/-- and of the second. -/
def spreadB (t : BitVec 32) : IVec S98x16x128 16 := broadcastTo S98x16x128 (slab t) broadcasts_S1x16x128_S98x16x128

/-- How many elements of the two parts compare to `t` by `p`. -/
def count (p : CmpIPredicate) (a : IVec S196x16x128 16) (b : IVec S98x16x128 16) (t : BitVec 32) : BitVec 32 :=
  Scalar.addi (Scalar.addi 0#32 (sumA (cmpi p a (spreadA t)))) (sumB (cmpi p b (spreadB t)))

/-- The search's candidate with the next lower bit set. -/
def trial (k : ℕ) (acc : BitVec 32) : BitVec 32 :=
  Scalar.ori acc (Scalar.shli 1#32 (Scalar.subi 14#32 (Scf.iv 0#32 1#32 k)))

/-- One step of the search: the bit stays if at least `kk` elements reach the trial. -/
def step (a : IVec S196x16x128 16) (b : IVec S98x16x128 16) (kk : BitVec 32) (k : ℕ) (acc : BitVec 32) : BitVec 32 :=
  Scalar.select (Scalar.cmpi .sge (count .sge a b (trial k acc)) kk) (trial k acc) acc

/-- The search's start: zero if at least `kk` elements are not negative, else the least half. -/
def start (a : IVec S196x16x128 16) (b : IVec S98x16x128 16) (kk : BitVec 32) : BitVec 32 :=
  Scalar.select (Scalar.cmpi .sge (count .sge a b 0#32) kk) 0#32 4294934528#32

/-- The search, over `n` bits. -/
def search (n : ℕ) (a : IVec S196x16x128 16) (b : IVec S98x16x128 16) (kk : BitVec 32) : BitVec 32 :=
  Scf.fold (fun (k : Fin n) acc => step a b kk k acc) (start a b kk)

/-! ## The threshold -/

/-- The high half of the threshold. -/
def hiOf (x : Vec F S1x56x56x192 .f32) : BitVec 32 := search k0_t1_loop.trips (k0_pay21 x) (k0_pay23 x) 64#32

/-- Where the first part's high half is the threshold's, -/
def eqA (x : Vec F S1x56x56x192 .f32) : IVec S196x16x128 1 := cmpi .eq (k0_pay21 x) (spreadA (hiOf x))
/-- and where the second's is. -/
def eqB (x : Vec F S1x56x56x192 .f32) : IVec S98x16x128 1 := cmpi .eq (k0_pay23 x) (spreadB (hiOf x))

/-- The elements whose high half is greater, counted. -/
def cntGt (x : Vec F S1x56x56x192 .f32) : BitVec 32 := count .sgt (k0_pay21 x) (k0_pay23 x) (hiOf x)
/-- The elements whose high half is equal, counted. -/
def cntEq (x : Vec F S1x56x56x192 .f32) : BitVec 32 := count .eq (k0_pay21 x) (k0_pay23 x) (hiOf x)

/-- The low half of the threshold when every equal element is kept: the least of them. -/
def fast (x : Vec F S1x56x56x192 .f32) : BitVec 32 :=
  Scalar.minsi (minA (select (eqA x) (k0_pay40 (k0_pay20 x)) (broadcast S196x16x128 32767#16)))
    (minB (select (eqB x) (k0_pay48 (k0_pay22 x)) (broadcast S98x16x128 32767#16)))

/-- The low half of the threshold in general: the search among the equal elements. -/
def slow (x : Vec F S1x56x56x192 .f32) : BitVec 32 :=
  search k0_t2_loop.trips (select (eqA x) (k0_pay40 (k0_pay20 x)) (broadcast S196x16x128 32768#16))
    (select (eqB x) (k0_pay48 (k0_pay22 x)) (broadcast S98x16x128 32768#16)) (Scalar.subi 64#32 (cntGt x))

/-- The condition the kernel branches on. -/
def cond (x : Vec F S1x56x56x192 .f32) : BitVec 1 :=
  Scalar.cmpi .ne (Scalar.extui (Scalar.cmpi .eq (Scalar.addi (cntGt x) (cntEq x)) 64#32)) 0#32

/-- The low half of the threshold. -/
def loOf (x : Vec F S1x56x56x192 .f32) : BitVec 32 := if cond x = 1#1 then fast x else slow x

/-- The block the kernel stores. -/
def kout (x : Vec F S1x56x56x192 .f32) : FVec F S1x56x56x192 .f32 := k0_pay6 (k0_pay19 x) (hiOf x) (loOf x)

end Cert.Proof.K

end
-- ==== Proof.Slabs.lean ====
/- What the folds over the leading axis compute: a sum of all slabs, a least of all slabs. -/
module

public import proofs.«01_k».proof.Proof.Model
public import Idealize.ShloMosaic.Lib.Pointwise.Tactic
public import Idealize.ShloMosaic.Lib.Pointwise.Sums
public import Idealize.ShloMosaic.PureOps.Reduce
public import Mathlib.Data.BitVec

@[expose] public section

noncomputable section

namespace Cert.Proof.K

open Cert.Kernel Cert.Kernel.Gen
open Idealize.ShloMosaic

/-! ## Sums -/

theorem add98_at (m : IVec S196x16x128 16) (t : Fin 98) (a : Fin 16) (b : Fin 128) :
    add98 m (ix3 t a b) = m (ix3 ⟨t.val, by omega⟩ a b) + m (ix3 ⟨98 + t.val, by omega⟩ a b) := by
  show extractStridedSlice S98x16x128 ![0, 0, 0] m _ (ix3 t a b) + extractStridedSlice S98x16x128 ![98, 0, 0] m _ (ix3 t a b) = _
  pointwise

theorem add49_at (m : IVec S98x16x128 16) (t : Fin 49) (a : Fin 16) (b : Fin 128) :
    add49 m (ix3 t a b) = m (ix3 ⟨t.val, by omega⟩ a b) + m (ix3 ⟨49 + t.val, by omega⟩ a b) := by
  show extractStridedSlice S49x16x128 ![0, 0, 0] m _ (ix3 t a b) + extractStridedSlice S49x16x128 ![49, 0, 0] m _ (ix3 t a b) = _
  pointwise

theorem add7_at (m : IVec S49x16x128 16) (t : Fin 7) (a : Fin 16) (b : Fin 128) :
    add7 m (ix3 t a b) = ∑ j : Fin 7, m (ix3 ⟨j.val * 7 + t.val, by omega⟩ a b) := by
  rw [Fin.sum_univ_seven]
  show extractStridedSlice S7x16x128 ![0, 0, 0] m _ (ix3 t a b) + extractStridedSlice S7x16x128 ![7, 0, 0] m _ (ix3 t a b)
    + extractStridedSlice S7x16x128 ![14, 0, 0] m _ (ix3 t a b) + extractStridedSlice S7x16x128 ![21, 0, 0] m _ (ix3 t a b)
    + extractStridedSlice S7x16x128 ![28, 0, 0] m _ (ix3 t a b) + extractStridedSlice S7x16x128 ![35, 0, 0] m _ (ix3 t a b)
    + extractStridedSlice S7x16x128 ![42, 0, 0] m _ (ix3 t a b) = _
  pointwise

theorem add1_at (m : IVec S7x16x128 16) (a : Fin 16) (b : Fin 128) :
    add1 m (ix3 0 a b) = ∑ j : Fin 7, m (ix3 j a b) := by
  rw [Fin.sum_univ_seven]
  show extractStridedSlice S1x16x128 ![0, 0, 0] m _ (ix3 0 a b) + extractStridedSlice S1x16x128 ![1, 0, 0] m _ (ix3 0 a b)
    + extractStridedSlice S1x16x128 ![2, 0, 0] m _ (ix3 0 a b) + extractStridedSlice S1x16x128 ![3, 0, 0] m _ (ix3 0 a b)
    + extractStridedSlice S1x16x128 ![4, 0, 0] m _ (ix3 0 a b) + extractStridedSlice S1x16x128 ![5, 0, 0] m _ (ix3 0 a b)
    + extractStridedSlice S1x16x128 ![6, 0, 0] m _ (ix3 0 a b) = _
  pointwise

/-- The folds of the second part add all its slabs, -/
theorem addB_at (m : IVec S98x16x128 16) (a : Fin 16) (b : Fin 128) :
    add1 (add7 (add49 m)) (ix3 0 a b) = ∑ t : Fin 98, m (ix3 t a b) := by
  rw [add1_at, Fin.sum_univ_two_halves 49 49 rfl, ← Finset.sum_add_distrib, Fin.sum_univ_tiles 7 7 rfl, Finset.sum_comm]
  refine Finset.sum_congr rfl fun j _ => ?_
  rw [add7_at]
  exact Finset.sum_congr rfl fun t _ => add49_at m _ a b

/-- and those of the first part all its slabs. -/
theorem addA_at (m : IVec S196x16x128 16) (a : Fin 16) (b : Fin 128) :
    add1 (add7 (add49 (add98 m))) (ix3 0 a b) = ∑ t : Fin 196, m (ix3 t a b) := by
  rw [addB_at, Fin.sum_univ_two_halves 98 98 rfl, ← Finset.sum_add_distrib]
  exact Finset.sum_congr rfl fun t _ => add98_at m _ a b

/-- The last slab's sum, as words of 32 bits. -/
theorem total_eq (m : IVec S1x16x128 16) : total m = ∑ a : Fin 16, ∑ b : Fin 128, (m (ix3 0 a b)).signExtend 32 := by
  unfold total
  show reduceFold reduces_S1x16x128_S1 (· + ·) 0#32 _ _ = _
  rw [reduceFold_add_eq_sum, Finset.filter_true_of_mem, sum_idx3]
  · simp only [Fin.sum_univ_one]
    refine (zero_add _).trans (Finset.sum_congr rfl fun a _ => Finset.sum_congr rfl fun b _ => ?_)
    show BitVec.signExtend 32 (m (Shape.reshapeEquiv _ (Shape.reshapeEquiv _ (ix3 0 a b)))) = _
    rw [Shape.reshapeEquiv_reshapeEquiv, Shape.reshapeEquiv_self]
  · intro i _
    funext b
    have h1 : ∀ b, S1.size b = 1 := by decide
    exact Fin.ext (by have := h1 b; omega)

/-! ## A mask's count -/

theorem signExtend_small (n : ℕ) (h : n ≤ 196) : (BitVec.ofNat 16 n).signExtend 32 = BitVec.ofNat 32 n := by
  interval_cases n <;> rfl

theorem ofNat_sum {w : ℕ} {ι : Type} (s : Finset ι) (f : ι → ℕ) : BitVec.ofNat w (∑ i ∈ s, f i) = ∑ i ∈ s, BitVec.ofNat w (f i) := by
  classical
  induction s using Finset.induction_on with
  | empty => rfl
  | insert a s ha ih => rw [Finset.sum_insert ha, Finset.sum_insert ha, BitVec.ofNat_add, ih]

theorem select_bit (c : BitVec 1) : Scalar.select c 1#16 0#16 = BitVec.ofNat 16 (if c = 1#1 then 1 else 0) := by
  by_cases h : c = 1#1
  · simp [Scalar.select, h]
  · simp [Scalar.select, h]

/-- How many elements of a mask are set. -/
def cnt {s : Shape} (m : IVec s 1) : ℕ := ∑ i : s.Idx, if m i = 1#1 then 1 else 0

theorem cnt_ix3 {n : ℕ} (m : IVec ⟨3, ![n, 16, 128]⟩ 1) :
    cnt m = ∑ a : Fin 16, ∑ b : Fin 128, ∑ t : Fin n, if m (ix3 t a b) = 1#1 then 1 else 0 := by
  unfold cnt
  rw [sum_idx3, Finset.sum_comm]
  exact Finset.sum_congr rfl fun a _ => Finset.sum_comm

theorem column {n : ℕ} (hn : n ≤ 196) (f : Fin n → BitVec 1) :
    (∑ t : Fin n, Scalar.select (f t) 1#16 0#16).signExtend 32 = BitVec.ofNat 32 (∑ t : Fin n, if f t = 1#1 then 1 else 0) := by
  rw [← signExtend_small, ofNat_sum]
  · exact congrArg _ (Finset.sum_congr rfl fun t _ => select_bit _)
  · refine (Finset.sum_le_card_nsmul _ _ 1 fun t _ => ?_).trans (by simpa using hn)
    split <;> omega

theorem sumB_eq (m : IVec S98x16x128 1) : sumB m = BitVec.ofNat 32 (cnt m) := by
  unfold sumB
  rw [total_eq, cnt_ix3, ofNat_sum]
  refine Finset.sum_congr rfl fun a _ => ?_
  rw [ofNat_sum]
  refine Finset.sum_congr rfl fun b _ => ?_
  rw [addB_at]
  exact column (by omega) fun t => m (ix3 t a b)

theorem sumA_eq (m : IVec S196x16x128 1) : sumA m = BitVec.ofNat 32 (cnt m) := by
  unfold sumA
  rw [total_eq, cnt_ix3, ofNat_sum]
  refine Finset.sum_congr rfl fun a _ => ?_
  rw [ofNat_sum]
  refine Finset.sum_congr rfl fun b _ => ?_
  rw [addA_at]
  exact column (by omega) fun t => m (ix3 t a b)

theorem cnt_leA (m : IVec S196x16x128 1) : cnt m ≤ 401408 := by
  unfold cnt
  refine (Finset.sum_le_card_nsmul _ _ 1 fun t _ => by split <;> omega).trans ?_
  rw [Finset.card_univ, Shape.card_idx]; decide

theorem cnt_leB (m : IVec S98x16x128 1) : cnt m ≤ 200704 := by
  unfold cnt
  refine (Finset.sum_le_card_nsmul _ _ 1 fun t _ => by split <;> omega).trans ?_
  rw [Finset.card_univ, Shape.card_idx]; decide

end Cert.Proof.K

end
-- ==== Proof.Least.lean ====
/- What the folds by the signed minimum compute: the least word of all. -/
module

public import proofs.«01_k».proof.Proof.Slabs

@[expose] public section

noncomputable section

namespace Cert.Proof.K

open Cert.Kernel Cert.Kernel.Gen
open Idealize.ShloMosaic

theorem minsi_le_left (x y : BitVec 32) : (IntOp.minsi x y).toInt ≤ x.toInt := by
  unfold IntOp.minsi; split
  · exact le_rfl
  · rename_i h; rw [BitVec.slt_iff_toInt_lt] at h; omega
theorem minsi_le_right (x y : BitVec 32) : (IntOp.minsi x y).toInt ≤ y.toInt := by
  unfold IntOp.minsi; split
  · rename_i h; rw [BitVec.slt_iff_toInt_lt] at h; omega
  · exact le_rfl
theorem minsi_or (x y : BitVec 32) : IntOp.minsi x y = x ∨ IntOp.minsi x y = y := by
  unfold IntOp.minsi; split <;> simp

/-- `m'` keeps the least of `m`: below every word of `m` there is one of `m'`, and every word of `m'` is one of `m`. -/
structure Keeps {s t : Shape} (m : IVec s 32) (m' : IVec t 32) : Prop where
  le : ∀ i, ∃ j, (m' j).toInt ≤ (m i).toInt
  mem : ∀ j, ∃ i, m' j = m i

theorem Keeps.trans {s t u : Shape} {m : IVec s 32} {m' : IVec t 32} {m'' : IVec u 32} (h : Keeps m m') (h' : Keeps m' m'') : Keeps m m'' where
  le i := by
    obtain ⟨j, hj⟩ := h.le i
    obtain ⟨k, hk⟩ := h'.le j
    exact ⟨k, hk.trans hj⟩
  mem k := by
    obtain ⟨j, hj⟩ := h'.mem k
    obtain ⟨i, hi⟩ := h.mem j
    exact ⟨i, hj.trans hi⟩

theorem min98_at (m : IVec S196x16x128 32) (t : Fin 98) (a : Fin 16) (b : Fin 128) :
    min98 m (ix3 t a b) = IntOp.minsi (m (ix3 ⟨t.val, by omega⟩ a b)) (m (ix3 ⟨98 + t.val, by omega⟩ a b)) := by
  show IntOp.minsi (extractStridedSlice S98x16x128 ![0, 0, 0] m _ (ix3 t a b)) (extractStridedSlice S98x16x128 ![98, 0, 0] m _ (ix3 t a b)) = _
  pointwise

theorem min49_at (m : IVec S98x16x128 32) (t : Fin 49) (a : Fin 16) (b : Fin 128) :
    min49 m (ix3 t a b) = IntOp.minsi (m (ix3 ⟨t.val, by omega⟩ a b)) (m (ix3 ⟨49 + t.val, by omega⟩ a b)) := by
  show IntOp.minsi (extractStridedSlice S49x16x128 ![0, 0, 0] m _ (ix3 t a b)) (extractStridedSlice S49x16x128 ![49, 0, 0] m _ (ix3 t a b)) = _
  pointwise

/-- Seven words' least, in order. -/
def min7w (f : Fin 7 → BitVec 32) : BitVec 32 :=
  IntOp.minsi (IntOp.minsi (IntOp.minsi (IntOp.minsi (IntOp.minsi (IntOp.minsi (f 0) (f 1)) (f 2)) (f 3)) (f 4)) (f 5)) (f 6)

theorem min7w_le (f : Fin 7 → BitVec 32) (j : Fin 7) : (min7w f).toInt ≤ (f j).toInt := by
  unfold min7w
  have h1 := minsi_le_left (f 0) (f 1)
  have g1 := minsi_le_right (f 0) (f 1)
  generalize IntOp.minsi (f 0) (f 1) = a1 at *
  have h2 := minsi_le_left a1 (f 2)
  have g2 := minsi_le_right a1 (f 2)
  generalize IntOp.minsi a1 (f 2) = a2 at *
  have h3 := minsi_le_left a2 (f 3)
  have g3 := minsi_le_right a2 (f 3)
  generalize IntOp.minsi a2 (f 3) = a3 at *
  have h4 := minsi_le_left a3 (f 4)
  have g4 := minsi_le_right a3 (f 4)
  generalize IntOp.minsi a3 (f 4) = a4 at *
  have h5 := minsi_le_left a4 (f 5)
  have g5 := minsi_le_right a4 (f 5)
  generalize IntOp.minsi a4 (f 5) = a5 at *
  have h6 := minsi_le_left a5 (f 6)
  have g6 := minsi_le_right a5 (f 6)
  match j with
  | 0 => omega
  | 1 => omega
  | 2 => omega
  | 3 => omega
  | 4 => omega
  | 5 => omega
  | 6 => omega

theorem min7w_mem (f : Fin 7 → BitVec 32) : ∃ j, min7w f = f j := by
  unfold min7w
  rcases minsi_or (IntOp.minsi (IntOp.minsi (IntOp.minsi (IntOp.minsi (IntOp.minsi (f 0) (f 1)) (f 2)) (f 3)) (f 4)) (f 5)) (f 6) with h | h
  swap; · exact ⟨6, h⟩
  rw [h]
  rcases minsi_or (IntOp.minsi (IntOp.minsi (IntOp.minsi (IntOp.minsi (f 0) (f 1)) (f 2)) (f 3)) (f 4)) (f 5) with h | h
  swap; · exact ⟨5, h⟩
  rw [h]
  rcases minsi_or (IntOp.minsi (IntOp.minsi (IntOp.minsi (f 0) (f 1)) (f 2)) (f 3)) (f 4) with h | h
  swap; · exact ⟨4, h⟩
  rw [h]
  rcases minsi_or (IntOp.minsi (IntOp.minsi (f 0) (f 1)) (f 2)) (f 3) with h | h
  swap; · exact ⟨3, h⟩
  rw [h]
  rcases minsi_or (IntOp.minsi (f 0) (f 1)) (f 2) with h | h
  swap; · exact ⟨2, h⟩
  rw [h]
  rcases minsi_or (f 0) (f 1) with h | h
  · exact ⟨0, h⟩
  · exact ⟨1, h⟩

theorem min7_at (m : IVec S49x16x128 32) (t : Fin 7) (a : Fin 16) (b : Fin 128) :
    min7 m (ix3 t a b) = min7w fun j => m (ix3 ⟨j.val * 7 + t.val, by omega⟩ a b) := by
  unfold min7w
  show IntOp.minsi (IntOp.minsi (IntOp.minsi (IntOp.minsi (IntOp.minsi (IntOp.minsi
      (extractStridedSlice S7x16x128 ![0, 0, 0] m _ (ix3 t a b)) (extractStridedSlice S7x16x128 ![7, 0, 0] m _ (ix3 t a b)))
    (extractStridedSlice S7x16x128 ![14, 0, 0] m _ (ix3 t a b))) (extractStridedSlice S7x16x128 ![21, 0, 0] m _ (ix3 t a b)))
    (extractStridedSlice S7x16x128 ![28, 0, 0] m _ (ix3 t a b))) (extractStridedSlice S7x16x128 ![35, 0, 0] m _ (ix3 t a b)))
    (extractStridedSlice S7x16x128 ![42, 0, 0] m _ (ix3 t a b)) = _
  pointwise

theorem min1_at (m : IVec S7x16x128 32) (a : Fin 16) (b : Fin 128) :
    min1 m (ix3 0 a b) = min7w fun j => m (ix3 j a b) := by
  unfold min7w
  show IntOp.minsi (IntOp.minsi (IntOp.minsi (IntOp.minsi (IntOp.minsi (IntOp.minsi
      (extractStridedSlice S1x16x128 ![0, 0, 0] m _ (ix3 0 a b)) (extractStridedSlice S1x16x128 ![1, 0, 0] m _ (ix3 0 a b)))
    (extractStridedSlice S1x16x128 ![2, 0, 0] m _ (ix3 0 a b))) (extractStridedSlice S1x16x128 ![3, 0, 0] m _ (ix3 0 a b)))
    (extractStridedSlice S1x16x128 ![4, 0, 0] m _ (ix3 0 a b))) (extractStridedSlice S1x16x128 ![5, 0, 0] m _ (ix3 0 a b)))
    (extractStridedSlice S1x16x128 ![6, 0, 0] m _ (ix3 0 a b)) = _
  pointwise

theorem keeps98 (m : IVec S196x16x128 32) : Keeps m (min98 m) where
  le i := by
    obtain ⟨t, a, b, rfl⟩ : ∃ (t : Fin 196) (a : Fin 16) (b : Fin 128), i = ix3 t a b := ⟨_, _, _, eq_ix3 i⟩
    by_cases h : t.val < 98
    · exact ⟨ix3 ⟨t.val, h⟩ a b, by rw [min98_at]; exact minsi_le_left _ _⟩
    · refine ⟨ix3 ⟨t.val - 98, by omega⟩ a b, ?_⟩
      rw [min98_at]
      have e : (⟨98 + (t.val - 98), by omega⟩ : Fin 196) = t := Fin.ext (by simp only; omega)
      simp only [e]
      exact minsi_le_right _ _
  mem j := by
    obtain ⟨t, a, b, rfl⟩ : ∃ (t : Fin 98) (a : Fin 16) (b : Fin 128), j = ix3 t a b := ⟨_, _, _, eq_ix3 j⟩
    rw [min98_at]
    rcases minsi_or (m (ix3 ⟨t.val, by omega⟩ a b)) (m (ix3 ⟨98 + t.val, by omega⟩ a b)) with h | h
    · exact ⟨_, h⟩
    · exact ⟨_, h⟩

theorem keeps49 (m : IVec S98x16x128 32) : Keeps m (min49 m) where
  le i := by
    obtain ⟨t, a, b, rfl⟩ : ∃ (t : Fin 98) (a : Fin 16) (b : Fin 128), i = ix3 t a b := ⟨_, _, _, eq_ix3 i⟩
    by_cases h : t.val < 49
    · exact ⟨ix3 ⟨t.val, h⟩ a b, by rw [min49_at]; exact minsi_le_left _ _⟩
    · refine ⟨ix3 ⟨t.val - 49, by omega⟩ a b, ?_⟩
      rw [min49_at]
      have e : (⟨49 + (t.val - 49), by omega⟩ : Fin 98) = t := Fin.ext (by simp only; omega)
      simp only [e]
      exact minsi_le_right _ _
  mem j := by
    obtain ⟨t, a, b, rfl⟩ : ∃ (t : Fin 49) (a : Fin 16) (b : Fin 128), j = ix3 t a b := ⟨_, _, _, eq_ix3 j⟩
    rw [min49_at]
    rcases minsi_or (m (ix3 ⟨t.val, by omega⟩ a b)) (m (ix3 ⟨49 + t.val, by omega⟩ a b)) with h | h
    · exact ⟨_, h⟩
    · exact ⟨_, h⟩

theorem keeps7 (m : IVec S49x16x128 32) : Keeps m (min7 m) where
  le i := by
    obtain ⟨t, a, b, rfl⟩ : ∃ (t : Fin 49) (a : Fin 16) (b : Fin 128), i = ix3 t a b := ⟨_, _, _, eq_ix3 i⟩
    refine ⟨ix3 ⟨t.val % 7, by omega⟩ a b, ?_⟩
    rw [min7_at]
    have h := min7w_le (fun j : Fin 7 => m (ix3 ⟨j.val * 7 + t.val % 7, by omega⟩ a b)) ⟨t.val / 7, by omega⟩
    have e : (⟨t.val / 7 * 7 + t.val % 7, by omega⟩ : Fin 49) = t := Fin.ext (by simp only; omega)
    simp only [e] at h
    exact h
  mem j := by
    obtain ⟨t, a, b, rfl⟩ : ∃ (t : Fin 7) (a : Fin 16) (b : Fin 128), j = ix3 t a b := ⟨_, _, _, eq_ix3 j⟩
    rw [min7_at]
    obtain ⟨k, hk⟩ := min7w_mem fun k : Fin 7 => m (ix3 ⟨k.val * 7 + t.val, by omega⟩ a b)
    exact ⟨_, hk⟩

theorem keeps1 (m : IVec S7x16x128 32) : Keeps m (min1 m) where
  le i := by
    obtain ⟨t, a, b, rfl⟩ : ∃ (t : Fin 7) (a : Fin 16) (b : Fin 128), i = ix3 t a b := ⟨_, _, _, eq_ix3 i⟩
    exact ⟨ix3 0 a b, by rw [min1_at]; exact min7w_le (fun k : Fin 7 => m (ix3 k a b)) t⟩
  mem j := by
    obtain ⟨t, a, b, rfl⟩ : ∃ (t : Fin 1) (a : Fin 16) (b : Fin 128), j = ix3 t a b := ⟨_, _, _, eq_ix3 j⟩
    obtain rfl : t = 0 := Subsingleton.elim _ _
    rw [min1_at]
    obtain ⟨k, hk⟩ := min7w_mem fun k : Fin 7 => m (ix3 k a b)
    exact ⟨_, hk⟩

theorem foldl_minsi {ι : Type} (x : ι → BitVec 32) (l : List ι) (init : BitVec 32) :
    (l.foldl (fun r i => IntOp.minsi r (x i)) init).toInt ≤ init.toInt
    ∧ (∀ i ∈ l, (l.foldl (fun r i => IntOp.minsi r (x i)) init).toInt ≤ (x i).toInt)
    ∧ (l.foldl (fun r i => IntOp.minsi r (x i)) init = init ∨ ∃ i ∈ l, l.foldl (fun r i => IntOp.minsi r (x i)) init = x i) := by
  induction l generalizing init with
  | nil => exact ⟨le_rfl, fun i hi => absurd hi List.not_mem_nil, .inl rfl⟩
  | cons a l ih =>
    obtain ⟨h1, h2, h3⟩ := ih (IntOp.minsi init (x a))
    rw [List.foldl_cons]
    refine ⟨h1.trans (minsi_le_left _ _), fun i hi => ?_, ?_⟩
    · rcases List.mem_cons.1 hi with rfl | hi
      · exact h1.trans (minsi_le_right _ _)
      · exact h2 i hi
    · rcases h3 with h3 | ⟨i, hi, h3⟩
      · rcases minsi_or init (x a) with h | h
        · exact .inl (h3.trans h)
        · exact .inr ⟨a, List.mem_cons_self, h3.trans h⟩
      · exact .inr ⟨i, List.mem_cons_of_mem _ hi, h3⟩

theorem least_spec (m : IVec S1x16x128 32) : (∀ i, (least m).toInt ≤ (m i).toInt) ∧ ∃ i, least m = m i := by
  have e : least m = ((List.finRange S1x16x128.numel).map S1x16x128.rowMajor.symm).foldl (fun r i => IntOp.minsi r (m i)) 2147483647#32 := by
    unfold least
    refine (reduceFold_eq_foldl_of_size_one reduces_S1x16x128_S1 (by decide) IntOp.minsi _ _ _).trans ?_
    refine congrArg (fun f => List.foldl f _ _) (funext fun r => funext fun i => ?_)
    show IntOp.minsi r (m (Shape.reshapeEquiv _ (Shape.reshapeEquiv _ i))) = _
    rw [Shape.reshapeEquiv_reshapeEquiv, Shape.reshapeEquiv_self]
  have hm : ∀ i : S1x16x128.Idx, i ∈ (List.finRange S1x16x128.numel).map S1x16x128.rowMajor.symm := fun i =>
    List.mem_map.2 ⟨S1x16x128.rowMajor i, List.mem_finRange _, by simp⟩
  obtain ⟨-, h2, h3⟩ := foldl_minsi m ((List.finRange S1x16x128.numel).map S1x16x128.rowMajor.symm) 2147483647#32
  rw [← e] at h2 h3
  refine ⟨fun i => h2 i (hm i), ?_⟩
  rcases h3 with h3 | ⟨i, -, h3⟩
  · refine ⟨ix3 0 0 0, BitVec.eq_of_toInt_eq ?_⟩
    have := h2 (ix3 0 0 0) (hm _)
    have hb := BitVec.toInt_lt (x := m (ix3 0 0 0))
    rw [h3] at this ⊢
    have e1 : (2147483647#32).toInt = 2147483647 := by decide
    omega
  · exact ⟨i, h3⟩

theorem minB_spec (z : IVec S98x16x128 16) : (∀ i, (minB z).toInt ≤ (z i).toInt) ∧ ∃ i, minB z = (z i).signExtend 32 := by
  have k := ((keeps49 (extsi 32 z natLt_16_32)).trans (keeps7 _)).trans (keeps1 _)
  obtain ⟨h1, j, h2⟩ := least_spec (min1 (min7 (min49 (extsi 32 z natLt_16_32))))
  refine ⟨fun i => ?_, ?_⟩
  · obtain ⟨j, hj⟩ := k.le i
    refine ((h1 j).trans hj).trans (le_of_eq ?_)
    exact BitVec.toInt_signExtend_of_le (by decide)
  · obtain ⟨i, hi⟩ := k.mem j
    exact ⟨i, h2.trans hi⟩

theorem minA_spec (z : IVec S196x16x128 16) : (∀ i, (minA z).toInt ≤ (z i).toInt) ∧ ∃ i, minA z = (z i).signExtend 32 := by
  have k := (((keeps98 (extsi 32 z natLt_16_32)).trans (keeps49 _)).trans (keeps7 _)).trans (keeps1 _)
  obtain ⟨h1, j, h2⟩ := least_spec (min1 (min7 (min49 (min98 (extsi 32 z natLt_16_32)))))
  refine ⟨fun i => ?_, ?_⟩
  · obtain ⟨j, hj⟩ := k.le i
    refine ((h1 j).trans hj).trans (le_of_eq ?_)
    exact BitVec.toInt_signExtend_of_le (by decide)
  · obtain ⟨i, hi⟩ := k.mem j
    exact ⟨i, h2.trans hi⟩

end Cert.Proof.K

end
-- ==== Proof.Search.lean ====
/- What the search over sixteen bits finds: the greatest half that at least `K` elements reach. -/
module

public import proofs.«01_k».proof.Proof.Least

@[expose] public section

noncomputable section

namespace Cert.Proof.K

open Cert.Kernel Cert.Kernel.Gen
open Idealize.ShloMosaic

/-! ## Counting -/

open Classical in
/-- How many indices satisfy `P`. -/
def many {ι : Type} [Fintype ι] (P : ι → Prop) : ℕ := (Finset.univ.filter P).card

section Many
variable {ι κ : Type} [Fintype ι] [Fintype κ]

theorem many_mono {P Q : ι → Prop} (h : ∀ i, P i → Q i) : many P ≤ many Q :=
  Finset.card_le_card fun i hi => by simp only [Finset.mem_filter, Finset.mem_univ, true_and] at hi ⊢; exact h i hi

theorem many_congr {P Q : ι → Prop} (h : ∀ i, P i ↔ Q i) : many P = many Q :=
  le_antisymm (many_mono fun i => (h i).1) (many_mono fun i => (h i).2)

theorem many_all {P : ι → Prop} (h : ∀ i, P i) : many P = Fintype.card ι := by
  classical
  unfold many; rw [Finset.filter_true_of_mem fun i _ => h i]; rfl

theorem many_none {P : ι → Prop} (h : ∀ i, ¬P i) : many P = 0 := by
  classical
  unfold many; rw [Finset.filter_false_of_mem fun i _ => h i]; rfl

theorem many_pos {P : ι → Prop} (h : 0 < many P) : ∃ i, P i := by
  classical
  obtain ⟨i, hi⟩ := Finset.card_pos.1 h
  exact ⟨i, (Finset.mem_filter.1 hi).2⟩

theorem many_lt {P Q : ι → Prop} (h : ∀ i, P i → Q i) (i : ι) (hq : Q i) (hp : ¬P i) : many P < many Q :=
  Finset.card_lt_card ⟨fun i hi => by simp only [Finset.mem_filter, Finset.mem_univ, true_and] at hi ⊢; exact h i hi,
    fun hs => hp (by have := @hs i (by simp [hq]); simpa using this)⟩

theorem many_or {P Q : ι → Prop} (h : ∀ i, P i → ¬Q i) : many (fun i => P i ∨ Q i) = many P + many Q := by
  classical
  unfold many
  rw [← Finset.card_union_of_disjoint]
  · congr 1; ext i; simp
  · exact Finset.disjoint_filter.2 fun i _ => h i

theorem many_equiv (e : ι ≃ κ) (P : κ → Prop) : many (fun i => P (e i)) = many P := by
  classical
  unfold many
  exact Finset.card_bij (fun i _ => e i) (by simp) (by simp) fun k hk => ⟨e.symm k, by simpa using hk, by simp⟩

theorem many_sum (P : ι ⊕ κ → Prop) : many P = many (fun i => P (.inl i)) + many (fun k => P (.inr k)) := by
  classical
  unfold many
  rw [Finset.card_filter, Finset.card_filter, Finset.card_filter, Fintype.sum_sum_type]

end Many

/-- An element of the two parts. -/
abbrev J : Type := S196x16x128.Idx ⊕ S98x16x128.Idx

theorem card_J : Fintype.card J = 602112 := by
  rw [Fintype.card_sum, Shape.card_idx, Shape.card_idx]; decide

theorem many_le (P : J → Prop) : many P ≤ 602112 :=
  (many_mono fun _ _ => trivial).trans (le_of_eq ((many_all (P := fun _ : J => True) fun _ => trivial).trans card_J))

theorem cnt_eq_many {s : Shape} (m : IVec s 1) : cnt m = many fun i => m i = 1#1 := by
  classical
  unfold cnt many
  rw [Finset.card_filter]
  exact Finset.sum_congr rfl fun i _ => by congr

/-- The two parts' words as one function. -/
def pair (a : IVec S196x16x128 16) (b : IVec S98x16x128 16) : J → BitVec 16 := Sum.elim a b

theorem spreadA_at (t : BitVec 32) (i : S196x16x128.Idx) : spreadA t i = t.setWidth 16 := rfl
theorem spreadB_at (t : BitVec 32) (i : S98x16x128.Idx) : spreadB t i = t.setWidth 16 := rfl

theorem count_eq (p : CmpIPredicate) (q : BitVec 16 → BitVec 16 → Prop) (h : ∀ x y, IntOp.cmpi p x y = 1#1 ↔ q x y)
    (a : IVec S196x16x128 16) (b : IVec S98x16x128 16) (t : BitVec 32) :
    count p a b t = BitVec.ofNat 32 (many fun j => q (pair a b j) (t.setWidth 16)) := by
  unfold count
  show 0#32 + sumA _ + sumB _ = _
  rw [sumA_eq, sumB_eq, BitVec.zero_add, ← BitVec.ofNat_add, many_sum, cnt_eq_many, cnt_eq_many]
  refine congrArg (BitVec.ofNat 32) (congrArg₂ _ (many_congr fun i => ?_) (many_congr fun i => ?_))
  · exact h (a i) (spreadA t i)
  · exact h (b i) (spreadB t i)

theorem cmpi_sge {w : ℕ} (x y : BitVec w) : IntOp.cmpi .sge x y = 1#1 ↔ y.toInt ≤ x.toInt := by
  show BitVec.ofBool (y.sle x) = 1#1 ↔ _
  rw [← BitVec.sle_iff_toInt_le]; cases y.sle x <;> decide
theorem cmpi_sgt {w : ℕ} (x y : BitVec w) : IntOp.cmpi .sgt x y = 1#1 ↔ y.toInt < x.toInt := by
  show BitVec.ofBool (y.slt x) = 1#1 ↔ _
  rw [← BitVec.slt_iff_toInt_lt]; cases y.slt x <;> decide
theorem cmpi_eq {w : ℕ} (x y : BitVec w) : IntOp.cmpi .eq x y = 1#1 ↔ x.toInt = y.toInt := by
  show BitVec.ofBool (x == y) = 1#1 ↔ _
  rw [BitVec.toInt_inj]; by_cases h : x = y
  · simp [h]
  · have : (x == y) = false := by simpa using h
    rw [this]; simp [h]

theorem toInt_count (n : ℕ) (h : n ≤ 602112) : (BitVec.ofNat 32 n).toInt = n := by
  rw [BitVec.toInt_ofNat']; show Int.bmod n (2^32) = n
  rw [Int.bmod_eq_of_le] <;> omega

theorem toInt_low (t : BitVec 32) (h1 : -32768 ≤ t.toInt) (h2 : t.toInt < 32768) : (t.setWidth 16).toInt = t.toInt := by
  rw [BitVec.toInt_setWidth]
  rw [BitVec.toInt_eq_toNat_cond] at *
  have := t.isLt
  rw [Int.bmod_def]
  split at h1 <;> simp_all <;> split <;> omega

/-- How many of the words are at least `z`. -/
def reach (w : J → BitVec 16) (z : ℤ) : ℕ := many fun j => z ≤ (w j).toInt

theorem toInt16 (x : BitVec 16) : -32768 ≤ x.toInt ∧ x.toInt < 32768 := by
  have := BitVec.le_toInt x; have := BitVec.toInt_lt (x := x); constructor <;> norm_num at * <;> assumption

theorem count_sge (a : IVec S196x16x128 16) (b : IVec S98x16x128 16) (t : BitVec 32) (h1 : -32768 ≤ t.toInt) (h2 : t.toInt < 32768)
    (K : ℕ) (hK : K ≤ 64) :
    Scalar.cmpi .sge (count .sge a b t) (BitVec.ofNat 32 K) = 1#1 ↔ K ≤ reach (pair a b) t.toInt := by
  rw [count_eq .sge _ cmpi_sge]
  show IntOp.cmpi .sge _ _ = 1#1 ↔ _
  rw [cmpi_sge, toInt_count _ (many_le _), toInt_count _ (by omega), toInt_low t h1 h2]
  exact Int.ofNat_le

/-! ## The search -/

/-- What holds after `k` steps. -/
structure Inv (w : J → BitVec 16) (K k : ℕ) (acc : BitVec 32) : Prop where
  bits : ∀ i, i < 15 - k → acc.getLsbD i = false
  lo : -32768 ≤ acc.toInt
  hi : acc.toInt + 2 ^ (15 - k) ≤ 32768
  many : K ≤ reach w acc.toInt
  few : reach w (acc.toInt + 2 ^ (15 - k)) < K

theorem trial_eq (k : ℕ) (hk : k < 15) (acc : BitVec 32) : trial k acc = acc ||| BitVec.twoPow 32 (14 - k) := by
  have e : Scalar.shli 1#32 (Scalar.subi 14#32 (Scf.iv 0#32 1#32 k)) = BitVec.twoPow 32 (14 - k) := by
    interval_cases k <;> decide
  unfold trial
  rw [e]; rfl

theorem trial_spec (k : ℕ) (hk : k < 15) (acc : BitVec 32) (hb : ∀ i, i < 15 - k → acc.getLsbD i = false)
    (lo : -32768 ≤ acc.toInt) (hi : acc.toInt + 2 ^ (15 - k) ≤ 32768) :
    (∀ i, i < 14 - k → (trial k acc).getLsbD i = false) ∧ (trial k acc).toInt = acc.toInt + 2 ^ (14 - k) := by
  rw [trial_eq k hk]
  constructor
  · intro i hi
    rw [BitVec.getLsbD_or, BitVec.getLsbD_twoPow, hb i (by omega)]
    have : ¬(14 - k = i) := by omega
    simp [this]
  · have hz : acc &&& BitVec.twoPow 32 (14 - k) = 0#32 := by
      rw [BitVec.and_twoPow, hb _ (by omega)]; simp
    rw [← BitVec.add_eq_or_of_and_eq_zero _ _ hz, BitVec.toInt_add]
    have hp : (2 : ℤ) ^ (15 - k) = 2 * 2 ^ (14 - k) := by
      rw [show 15 - k = (14 - k) + 1 by omega, pow_succ]; ring
    have hpos : (0 : ℤ) < 2 ^ (14 - k) := by positivity
    have ht : (BitVec.twoPow 32 (14 - k)).toInt = 2 ^ (14 - k) := by
      interval_cases k <;> decide
    rw [ht, Int.bmod_eq_of_le] <;> omega

theorem reach_mono (w : J → BitVec 16) {z z' : ℤ} (h : z ≤ z') : reach w z' ≤ reach w z := many_mono fun _ hj => h.trans hj

theorem start_inv (a : IVec S196x16x128 16) (b : IVec S98x16x128 16) (K : ℕ) (h1 : 1 ≤ K) (hK : K ≤ 64) :
    Inv (pair a b) K 0 (start a b (BitVec.ofNat 32 K)) := by
  have hc := count_sge a b 0#32 (by decide) (by decide) K hK
  have e0 : (0#32).toInt = 0 := by decide
  have e1 : (4294934528#32).toInt = -32768 := by decide
  unfold start Scalar.select
  split
  · rename_i h
    have h' := hc.1 h
    rw [e0] at h'
    refine ⟨fun i _ => by simp, by decide, by decide, by rw [e0]; exact h', ?_⟩
    rw [e0]
    show reach (pair a b) (0 + 32768) < K
    unfold reach
    rw [many_none fun j hj => by have := (toInt16 (pair a b j)).2; omega]; omega
  · rename_i h
    have h' := mt hc.2 h
    rw [e0] at h'
    refine ⟨fun i hi => ?_, by decide, by decide, ?_, ?_⟩
    · have hi : i < 15 := hi
      interval_cases i <;> decide
    · rw [e1]
      unfold reach
      rw [many_all fun j => (toInt16 (pair a b j)).1, card_J]; omega
    · rw [e1]
      show reach (pair a b) (-32768 + 32768) < K
      exact not_le.1 h'

theorem step_inv (a : IVec S196x16x128 16) (b : IVec S98x16x128 16) (K : ℕ) (hK : K ≤ 64) (k : ℕ) (hk : k < 15) (acc : BitVec 32)
    (h : Inv (pair a b) K k acc) : Inv (pair a b) K (k + 1) (step a b (BitVec.ofNat 32 K) k acc) := by
  obtain ⟨hb, ht⟩ := trial_spec k hk acc h.bits h.lo h.hi
  have hp : (2 : ℤ) ^ (15 - k) = 2 * 2 ^ (14 - k) := by
    rw [show 15 - k = (14 - k) + 1 by omega, pow_succ]; ring
  have hpos : (0 : ℤ) < 2 ^ (14 - k) := by positivity
  have hlo := h.lo
  have hhi := h.hi
  have hs : 15 - (k + 1) = 14 - k := by omega
  have hc := count_sge a b (trial k acc) (by omega) (by omega) K hK
  unfold step Scalar.select
  split
  · rename_i hh
    refine ⟨by rw [hs]; exact hb, by omega, by rw [hs]; omega, hc.1 hh, ?_⟩
    rw [hs, ht, show acc.toInt + 2 ^ (14 - k) + 2 ^ (14 - k) = acc.toInt + 2 ^ (15 - k) by omega]
    exact h.few
  · rename_i hh
    refine ⟨fun i hi => h.bits i (by omega), hlo, by rw [hs]; omega, h.many, ?_⟩
    rw [hs, ← ht]
    exact not_le.1 (mt hc.2 hh)

theorem foldl_keeps {σ : Type} (g : ℕ → σ → σ) (P : ℕ → σ → Prop) (init : σ) (h0 : P 0 init) (N : ℕ)
    (hg : ∀ k, k < N → ∀ acc, P k acc → P (k + 1) (g k acc)) (n : ℕ) (hn : n ≤ N) :
    P n ((List.finRange n).foldl (fun acc k => g k.val acc) init) := by
  induction n with
  | zero => simpa using h0
  | succ n ih =>
    rw [List.finRange_succ_last, List.foldl_append, List.foldl_map]
    exact hg n (by omega) _ (ih (by omega))

theorem fold_inv {n : ℕ} (hn : n = 15) (a : IVec S196x16x128 16) (b : IVec S98x16x128 16) (K : ℕ) (h1 : 1 ≤ K) (hK : K ≤ 64) :
    Inv (pair a b) K 15 (search n a b (BitVec.ofNat 32 K)) := by
  have h := foldl_keeps (fun k acc => step a b (BitVec.ofNat 32 K) k acc) (Inv (pair a b) K) _ (start_inv a b K h1 hK) 15
    (fun k hk acc hi => step_inv a b K hK k hk acc hi) n (by omega)
  unfold search
  rw [Scf.fold_eq]
  exact (congrArg (fun k => Inv (pair a b) K k _) hn).mp h

/-- The search ends at the greatest half that at least `K` elements reach. -/
theorem search_spec {n : ℕ} (hn : n = 15) (a : IVec S196x16x128 16) (b : IVec S98x16x128 16) (K : ℕ) (h1 : 1 ≤ K) (hK : K ≤ 64) :
    -32768 ≤ (search n a b (BitVec.ofNat 32 K)).toInt ∧ (search n a b (BitVec.ofNat 32 K)).toInt < 32768
    ∧ K ≤ reach (pair a b) (search n a b (BitVec.ofNat 32 K)).toInt
    ∧ reach (pair a b) ((search n a b (BitVec.ofNat 32 K)).toInt + 1) < K := by
  obtain ⟨-, lo, hi, h3, h4⟩ := fold_inv hn a b K h1 hK
  simp only [Nat.sub_self, pow_zero] at hi h4
  exact ⟨lo, by omega, h3, h4⟩

end Cert.Proof.K

end
-- ==== Proof.Halves.lean ====
/- The two halves the kernel finds, together: fewer than 64 elements are above them and at least 64 reach them. -/
module

public import proofs.«01_k».proof.Proof.Search

@[expose] public section

noncomputable section

namespace Cert.Proof.K

open Cert.Kernel Cert.Kernel.Gen
open Idealize.ShloMosaic

/-! ## Two halves as one integer -/

theorem many_above (H L : J → BitVec 16) (h z : ℤ) (hz : -32768 ≤ z) (hz' : z < 32768) :
    many (fun j => h * 65536 + z < (H j).toInt * 65536 + (L j).toInt)
      = many (fun j => h + 1 ≤ (H j).toInt) + many (fun j => (H j).toInt = h ∧ z + 1 ≤ (L j).toInt) := by
  rw [← many_or fun j h1 h2 => by omega]
  refine many_congr fun j => ?_
  obtain ⟨l1, l2⟩ := toInt16 (L j)
  omega

theorem many_reaching (H L : J → BitVec 16) (h z : ℤ) (hz : -32768 ≤ z) (hz' : z < 32768) :
    many (fun j => h * 65536 + z ≤ (H j).toInt * 65536 + (L j).toInt)
      = many (fun j => h + 1 ≤ (H j).toInt) + many (fun j => (H j).toInt = h ∧ z ≤ (L j).toInt) := by
  rw [← many_or fun j h1 h2 => by omega]
  refine many_congr fun j => ?_
  obtain ⟨l1, l2⟩ := toInt16 (L j)
  omega

theorem many_ge (H : J → BitVec 16) (h : ℤ) : reach H h = many (fun j => h + 1 ≤ (H j).toInt) + many (fun j => (H j).toInt = h) := by
  unfold reach
  rw [← many_or fun j h1 h2 => by omega]
  exact many_congr fun j => by omega

variable {F : FTy → Type} [BitOps F] (x : Vec F S1x56x56x192 .f32)

/-- The high halves of the keys, -/
def H : J → BitVec 16 := pair (k0_pay21 x) (k0_pay23 x)
/-- and the low halves. -/
def L : J → BitVec 16 := pair (k0_pay40 (k0_pay20 x)) (k0_pay48 (k0_pay22 x))

/-- How many high halves are above the one found, -/
def nGt : ℕ := many fun j => (hiOf x).toInt + 1 ≤ (H x j).toInt
/-- and how many are it. -/
def nEq : ℕ := many fun j => (H x j).toInt = (hiOf x).toInt

theorem trips1 : k0_t1_loop.trips = 15 := by decide
theorem trips2 : k0_t2_loop.trips = 15 := by decide

theorem hi_spec : -32768 ≤ (hiOf x).toInt ∧ (hiOf x).toInt < 32768 ∧ 64 ≤ nGt x + nEq x ∧ nGt x < 64 := by
  obtain ⟨h1, h2, h3, h4⟩ := search_spec trips1 (k0_pay21 x) (k0_pay23 x) 64 (by decide) le_rfl
  rw [many_ge] at h3
  exact ⟨h1, h2, h3, h4⟩

theorem hi_low : ((hiOf x).setWidth 16).toInt = (hiOf x).toInt := toInt_low _ (hi_spec x).1 (hi_spec x).2.1

theorem cntGt_spec : cntGt x = BitVec.ofNat 32 (nGt x) := by
  unfold cntGt
  rw [count_eq .sgt _ cmpi_sgt, hi_low]
  rfl

theorem cntEq_spec : cntEq x = BitVec.ofNat 32 (nEq x) := by
  unfold cntEq
  rw [count_eq .eq _ cmpi_eq, hi_low]
  rfl

theorem cond_spec : cond x = 1#1 ↔ nGt x + nEq x = 64 := by
  have hb : ∀ c : BitVec 1, Scalar.cmpi .ne (Scalar.extui c) 0#32 = 1#1 ↔ c = 1#1 := by decide
  unfold cond
  rw [hb, cntGt_spec, cntEq_spec]
  show IntOp.cmpi .eq (BitVec.ofNat 32 (nGt x) + BitVec.ofNat 32 (nEq x)) 64#32 = 1#1 ↔ _
  have h1 : nGt x ≤ 64 := (hi_spec x).2.2.2.le
  have h2 : nEq x ≤ 602112 := many_le _
  rw [← BitVec.ofNat_add, cmpi_eq, BitVec.toInt_inj]
  constructor
  · intro h
    have h := congrArg BitVec.toNat h
    simp only [BitVec.toNat_ofNat] at h
    omega
  · intro h; rw [h]

theorem eqA_spec (i : S196x16x128.Idx) : eqA x i = 1#1 ↔ (H x (.inl i)).toInt = (hiOf x).toInt := by
  show IntOp.cmpi .eq (k0_pay21 x i) (spreadA (hiOf x) i) = 1#1 ↔ _
  rw [cmpi_eq, spreadA_at, hi_low]; rfl

theorem eqB_spec (i : S98x16x128.Idx) : eqB x i = 1#1 ↔ (H x (.inr i)).toInt = (hiOf x).toInt := by
  show IntOp.cmpi .eq (k0_pay23 x i) (spreadB (hiOf x) i) = 1#1 ↔ _
  rw [cmpi_eq, spreadB_at, hi_low]; rfl

/-- The low halves of the elements whose high half is the one found, and `f` elsewhere. -/
def M (f : BitVec 16) : J → BitVec 16 :=
  pair (select (eqA x) (k0_pay40 (k0_pay20 x)) (broadcast S196x16x128 f)) (select (eqB x) (k0_pay48 (k0_pay22 x)) (broadcast S98x16x128 f))

theorem M_eq (f : BitVec 16) (j : J) (h : (H x j).toInt = (hiOf x).toInt) : M x f j = L x j := by
  rcases j with i | i
  · exact if_pos ((eqA_spec x i).2 h)
  · exact if_pos ((eqB_spec x i).2 h)

theorem M_ne (f : BitVec 16) (j : J) (h : (H x j).toInt ≠ (hiOf x).toInt) : M x f j = f := by
  rcases j with i | i
  · exact if_neg (mt (eqA_spec x i).1 h)
  · exact if_neg (mt (eqB_spec x i).1 h)

theorem slow_spec : -32768 ≤ (slow x).toInt ∧ (slow x).toInt < 32768
    ∧ 64 ≤ nGt x + many (fun j => (H x j).toInt = (hiOf x).toInt ∧ (slow x).toInt ≤ (L x j).toInt)
    ∧ nGt x + many (fun j => (H x j).toInt = (hiOf x).toInt ∧ (slow x).toInt + 1 ≤ (L x j).toInt) < 64 := by
  obtain ⟨-, -, g1, g2⟩ := hi_spec x
  have hk : Scalar.subi 64#32 (cntGt x) = BitVec.ofNat 32 (64 - nGt x) := by
    rw [cntGt_spec]
    show 64#32 - BitVec.ofNat 32 (nGt x) = _
    apply BitVec.eq_of_toNat_eq
    simp only [BitVec.toNat_sub, BitVec.toNat_ofNat]
    omega
  have hs : slow x = search k0_t2_loop.trips (select (eqA x) (k0_pay40 (k0_pay20 x)) (broadcast S196x16x128 32768#16))
      (select (eqB x) (k0_pay48 (k0_pay22 x)) (broadcast S98x16x128 32768#16)) (BitVec.ofNat 32 (64 - nGt x)) := by
    unfold slow; rw [hk]
  obtain ⟨h1, h2, h3, h4⟩ := search_spec trips2 (select (eqA x) (k0_pay40 (k0_pay20 x)) (broadcast S196x16x128 32768#16))
      (select (eqB x) (k0_pay48 (k0_pay22 x)) (broadcast S98x16x128 32768#16)) (64 - nGt x) (by omega) (by omega)
  rw [← hs] at h1 h2 h3 h4
  change _ ≤ reach (M x 32768#16) _ at h3
  change reach (M x 32768#16) _ < _ at h4
  generalize (slow x).toInt = z at *
  have ef : (32768#16).toInt = -32768 := by decide
  refine ⟨h1, h2, ?_, ?_⟩
  · by_cases hz : z = -32768
    · have e : many (fun j => (H x j).toInt = (hiOf x).toInt ∧ z ≤ (L x j).toInt) = nEq x :=
        many_congr fun j => ⟨fun h => h.1, fun h => ⟨h, by rw [hz]; exact (toInt16 _).1⟩⟩
      rw [e]; exact g1
    · have e : reach (M x 32768#16) z ≤ many (fun j => (H x j).toInt = (hiOf x).toInt ∧ z ≤ (L x j).toInt) :=
        many_mono fun j hj => by
          by_cases h : (H x j).toInt = (hiOf x).toInt
          · rw [M_eq x _ j h] at hj; exact ⟨h, hj⟩
          · rw [M_ne x _ j h, ef] at hj; omega
      omega
  · have e : many (fun j => (H x j).toInt = (hiOf x).toInt ∧ z + 1 ≤ (L x j).toInt) ≤ reach (M x 32768#16) (z + 1) :=
      many_mono fun j hj => by rw [M_eq x _ j hj.1]; exact hj.2
    omega

theorem fast_spec (hc : nGt x + nEq x = 64) : -32768 ≤ (fast x).toInt ∧ (fast x).toInt < 32768
    ∧ 64 ≤ nGt x + many (fun j => (H x j).toInt = (hiOf x).toInt ∧ (fast x).toInt ≤ (L x j).toInt)
    ∧ nGt x + many (fun j => (H x j).toInt = (hiOf x).toInt ∧ (fast x).toInt + 1 ≤ (L x j).toInt) < 64 := by
  obtain ⟨-, -, -, g2⟩ := hi_spec x
  obtain ⟨A0, hA⟩ : ∃ A0, A0 = select (eqA x) (k0_pay40 (k0_pay20 x)) (broadcast S196x16x128 32767#16) := ⟨_, rfl⟩
  obtain ⟨B0, hB⟩ : ∃ B0, B0 = select (eqB x) (k0_pay48 (k0_pay22 x)) (broadcast S98x16x128 32767#16) := ⟨_, rfl⟩
  have hf : fast x = IntOp.minsi (minA A0) (minB B0) := by unfold fast; rw [← hA, ← hB]; rfl
  have hM : M x 32767#16 = pair A0 B0 := by unfold M; rw [← hA, ← hB]
  have hle : ∀ j, (fast x).toInt ≤ (M x 32767#16 j).toInt := by
    intro j
    rw [hf, hM]
    rcases j with i | i
    · exact (minsi_le_left _ _).trans ((minA_spec A0).1 i)
    · exact (minsi_le_right _ _).trans ((minB_spec B0).1 i)
  have hmem : ∃ j, (fast x).toInt = (M x 32767#16 j).toInt := by
    have hw : ∀ w : BitVec 16, (w.signExtend 32).toInt = w.toInt := fun w => BitVec.toInt_signExtend_of_le (by decide)
    rw [hf, hM]
    rcases minsi_or (minA A0) (minB B0) with h | h
    · obtain ⟨i, hi⟩ := (minA_spec A0).2
      exact ⟨.inl i, (congrArg BitVec.toInt (h.trans hi)).trans (hw _)⟩
    · obtain ⟨i, hi⟩ := (minB_spec B0).2
      exact ⟨.inr i, (congrArg BitVec.toInt (h.trans hi)).trans (hw _)⟩
  generalize (fast x).toInt = z at *
  have ef : (32767#16).toInt = 32767 := by decide
  obtain ⟨jm, hjm⟩ := hmem
  have hm := toInt16 (M x 32767#16 jm)
  obtain ⟨j0, hj0⟩ := many_pos (show 0 < nEq x by omega)
  have h0 := hle j0
  rw [M_eq x _ j0 hj0] at h0
  have hl0 := toInt16 (L x j0)
  have e : many (fun j => (H x j).toInt = (hiOf x).toInt ∧ z ≤ (L x j).toInt) = nEq x :=
    many_congr fun j => ⟨fun h => h.1, fun h => ⟨h, by rw [← M_eq x 32767#16 j h]; exact hle j⟩⟩
  refine ⟨by omega, by omega, by omega, ?_⟩
  have hlt : many (fun j => (H x j).toInt = (hiOf x).toInt ∧ z + 1 ≤ (L x j).toInt) < nEq x := by
    by_cases h : (H x jm).toInt = (hiOf x).toInt
    · rw [M_eq x _ jm h] at hjm
      exact many_lt (fun j hj => hj.1) jm h (by omega)
    · rw [M_ne x _ jm h, ef] at hjm
      exact many_lt (fun j hj => hj.1) j0 hj0 (by omega)
  omega

/-- The halves found: fewer than 64 elements above, at least 64 reaching. -/
theorem halves_spec : -32768 ≤ (hiOf x).toInt ∧ (hiOf x).toInt < 32768 ∧ -32768 ≤ (loOf x).toInt ∧ (loOf x).toInt < 32768
    ∧ 64 ≤ many (fun j => (hiOf x).toInt * 65536 + (loOf x).toInt ≤ (H x j).toInt * 65536 + (L x j).toInt)
    ∧ many (fun j => (hiOf x).toInt * 65536 + (loOf x).toInt < (H x j).toInt * 65536 + (L x j).toInt) < 64 := by
  have hl : -32768 ≤ (loOf x).toInt ∧ (loOf x).toInt < 32768
    ∧ 64 ≤ nGt x + many (fun j => (H x j).toInt = (hiOf x).toInt ∧ (loOf x).toInt ≤ (L x j).toInt)
    ∧ nGt x + many (fun j => (H x j).toInt = (hiOf x).toInt ∧ (loOf x).toInt + 1 ≤ (L x j).toInt) < 64 := by
    by_cases hc : cond x = 1#1
    · have : loOf x = fast x := if_pos hc
      rw [this]; exact fast_spec x ((cond_spec x).1 hc)
    · have : loOf x = slow x := if_neg hc
      rw [this]; exact slow_spec x
  obtain ⟨l1, l2, l3, l4⟩ := hl
  refine ⟨(hi_spec x).1, (hi_spec x).2.1, l1, l2, ?_, ?_⟩
  · rw [many_reaching _ _ _ _ l1 l2]; exact l3
  · rw [many_above _ _ _ _ l1 l2]; exact l4

end Cert.Proof.K

end
-- ==== Proof.Keys.lean ====
/- The kernel's threshold as ONE word: of the sample's elements, ordered by their sort keys, fewer than 64 are above it and
   at least 64 reach it. -/
module

public import proofs.«01_k».proof.Proof.Halves
public import Idealize.ShloMosaic.Lib.SortKey
public import Idealize.ShloMosaic.Lib.Pointwise

@[expose] public section

noncomputable section

namespace Cert.Proof.K

open Cert.Kernel Cert.Kernel.Gen
open Idealize.ShloMosaic

/-! ## One word -/

theorem select_key (v : BitVec 32) :
    Scalar.select (IntOp.cmpi .slt v 0#32) (IntOp.xori v 2147483647#32) v = sortableKey v := by
  unfold Scalar.select
  have h : IntOp.cmpi .slt v 0#32 = 1#1 ↔ v.msb = true := by
    show BitVec.ofBool (v.slt 0#32) = 1#1 ↔ _
    rw [BitVec.slt_zero_eq_msb]; cases v.msb <;> decide
  cases hm : v.msb
  · exact (if_neg fun e => by have := h.1 e; rw [hm] at this; exact absurd this (by decide)).trans (sortableKey_of_msb_false v hm).symm
  · exact (if_pos (h.2 hm)).trans (sortableKey_of_msb_true v hm).symm

/-- A word's high half, signed, -/
def upper (k : BitVec 32) : BitVec 16 := (IntOp.shrsi .vector k 16#32).setWidth 16
/-- and its low half less 2¹⁵. -/
def lower (k : BitVec 32) : BitVec 16 := (IntOp.subi (IntOp.andi k 65535#32) 32768#32).setWidth 16

theorem upper_toInt (k : BitVec 32) : (upper k).toInt = k.toInt / 65536 := by
  have e : (IntOp.shrsi .vector k 16#32).toInt = k.toInt / 65536 := by
    unfold IntOp.shrsi
    rw [if_pos (by decide)]
    show (k.sshiftRight 16).toInt = _
    rw [BitVec.toInt_sshiftRight, Int.shiftRight_eq_div_pow]; rfl
  have h1 := BitVec.le_toInt k
  have h2 := BitVec.toInt_lt (x := k)
  norm_num at h1 h2
  unfold upper
  rw [toInt_low _ (by omega) (by omega), e]

theorem lower_toInt (k : BitVec 32) : (lower k).toInt = k.toInt % 65536 - 32768 := by
  have ha : (k &&& 65535#32).toNat = k.toNat % 65536 := by
    rw [BitVec.toNat_and]; exact Nat.and_two_pow_sub_one_eq_mod k.toNat 16
  have hk := k.isLt
  have hm : k.toInt % 65536 = (k.toNat % 65536 : ℕ) := by
    rw [BitVec.toInt_eq_toNat_cond]; split <;> omega
  have e : (IntOp.subi (IntOp.andi k 65535#32) 32768#32).toInt = k.toInt % 65536 - 32768 := by
    show ((k &&& 65535#32) - 32768#32).toInt = _
    rw [BitVec.toInt_sub, hm, BitVec.toInt_eq_toNat_cond, ha]
    have : (32768#32).toInt = 32768 := by decide
    rw [this, if_pos (by omega), Int.bmod_eq_of_le] <;> omega
  unfold lower
  rw [toInt_low _ (by omega) (by omega), e]

/-- A word is its halves. -/
theorem halves_toInt (k : BitVec 32) : (upper k).toInt * 65536 + (lower k).toInt + 32768 = k.toInt := by
  rw [upper_toInt, lower_toInt]; omega

/-- The halves found, put together. -/
def joined (hi lo : BitVec 32) : BitVec 32 := Scalar.ori (Scalar.shli hi 16#32) (Scalar.addi lo 32768#32)

theorem joined_toInt (hi lo : BitVec 32) (h1 : -32768 ≤ hi.toInt) (h2 : hi.toInt < 32768) (l1 : -32768 ≤ lo.toInt) (l2 : lo.toInt < 32768) :
    (joined hi lo).toInt = hi.toInt * 65536 + lo.toInt + 32768 := by
  have e1 : (Scalar.shli hi 16#32) = hi <<< 16 := by
    show IntOp.shli .scalar hi 16#32 = _
    unfold IntOp.shli
    rw [if_pos (by decide)]; rfl
  have e2 : (Scalar.addi lo 32768#32).toNat = (lo.toInt + 32768).toNat := by
    show (lo + 32768#32).toNat = _
    rw [BitVec.toNat_add]
    have := lo.isLt
    rw [BitVec.toInt_eq_toNat_cond] at *
    simp only [BitVec.toNat_ofNat]
    split at l1 <;> simp_all <;> omega
  have e3 : (hi <<< 16).toInt = hi.toInt * 65536 := by
    rw [BitVec.toInt_eq_toNat_cond, BitVec.toNat_shiftLeft, Nat.shiftLeft_eq]
    have := hi.isLt
    rw [BitVec.toInt_eq_toNat_cond] at *
    split at h1 <;> simp_all <;> split <;> omega
  have e4 : (Scalar.addi lo 32768#32).toInt = lo.toInt + 32768 := by
    rw [BitVec.toInt_eq_toNat_cond, e2, if_pos] <;> omega
  have hz : (hi <<< 16) &&& Scalar.addi lo 32768#32 = 0#32 := by
    apply BitVec.eq_of_getLsbD_eq
    intro i hi'
    rw [BitVec.getLsbD_and, BitVec.getLsbD_shiftLeft]
    by_cases h : i < 16
    · simp [h]
    · have : (Scalar.addi lo 32768#32).getLsbD i = false := by
        rw [BitVec.getLsbD, Nat.testBit_lt_two_pow]
        rw [e2]
        have : 2 ^ 16 ≤ 2 ^ i := Nat.pow_le_pow_right (by decide) (by omega)
        omega
      rw [this]; simp
  show (Scalar.shli hi 16#32 ||| Scalar.addi lo 32768#32).toInt = _
  rw [e1, ← BitVec.add_eq_or_of_and_eq_zero _ _ hz, BitVec.toInt_add, e3, e4, Int.bmod_eq_of_le] <;> omega

/-! ## The elements of the two parts -/

/-- Where an element of the first part lies in the sample, -/
def posA (t : Fin 196) (a : Fin 16) (b : Fin 128) : S3136x192.Idx := ix2 ⟨16 * t.val + a.val, by omega⟩ ⟨b.val, by omega⟩
/-- where one of the second part does, -/
def posB (t : Fin 98) (a : Fin 16) (b : Fin 128) : S3136x192.Idx :=
  ix2 ⟨16 * t.val + a.val + (if b.val < 64 then 0 else 1568), by split <;> omega⟩
    ⟨b.val + (if b.val < 64 then 128 else 64), by split <;> omega⟩
/-- and where one of the two does. -/
def pos : J → S3136x192.Idx
  | .inl i => posA (i 0) (i 1) (i 2)
  | .inr i => posB (i 0) (i 1) (i 2)

theorem pos_inl (t : Fin 196) (a : Fin 16) (b : Fin 128) :
    pos (.inl (ix3 t a b)) = ix2 ⟨16 * t.val + a.val, by omega⟩ ⟨b.val, by omega⟩ := rfl

theorem pos_inr (t : Fin 98) (a : Fin 16) (b : Fin 128) :
    pos (.inr (ix3 t a b)) = ix2 ⟨16 * t.val + a.val + (if b.val < 64 then 0 else 1568), by split <;> omega⟩
      ⟨b.val + (if b.val < 64 then 128 else 64), by split <;> omega⟩ := rfl

theorem ix2_vals {m n : ℕ} {a a' : Fin m} {b b' : Fin n} (h : (ix2 a b : (⟨2, ![m, n]⟩ : Shape).Idx) = ix2 a' b') : a.val = a'.val ∧ b.val = b'.val :=
  ⟨congrArg (fun i => ((i 0 : Fin m) : ℕ)) h, congrArg (fun i => ((i 1 : Fin n) : ℕ)) h⟩

theorem pos_injective : Function.Injective pos := by
  intro j k h
  rcases j with i | i <;> rcases k with l | l
  · obtain ⟨t, a, b, rfl⟩ : ∃ (t : Fin 196) (a : Fin 16) (b : Fin 128), i = ix3 t a b := ⟨_, _, _, eq_ix3 i⟩
    obtain ⟨t', a', b', rfl⟩ : ∃ (t : Fin 196) (a : Fin 16) (b : Fin 128), l = ix3 t a b := ⟨_, _, _, eq_ix3 l⟩
    rw [pos_inl, pos_inl] at h
    obtain ⟨h1, h2⟩ := ix2_vals h
    simp only at h1 h2
    obtain rfl : t = t' := Fin.ext (by omega)
    obtain rfl : a = a' := Fin.ext (by omega)
    obtain rfl : b = b' := Fin.ext (by omega)
    rfl
  · obtain ⟨t, a, b, rfl⟩ : ∃ (t : Fin 196) (a : Fin 16) (b : Fin 128), i = ix3 t a b := ⟨_, _, _, eq_ix3 i⟩
    obtain ⟨t', a', b', rfl⟩ : ∃ (t : Fin 98) (a : Fin 16) (b : Fin 128), l = ix3 t a b := ⟨_, _, _, eq_ix3 l⟩
    rw [pos_inl, pos_inr] at h
    obtain ⟨h1, h2⟩ := ix2_vals h
    simp only at h1 h2
    split at h2 <;> omega
  · obtain ⟨t, a, b, rfl⟩ : ∃ (t : Fin 98) (a : Fin 16) (b : Fin 128), i = ix3 t a b := ⟨_, _, _, eq_ix3 i⟩
    obtain ⟨t', a', b', rfl⟩ : ∃ (t : Fin 196) (a : Fin 16) (b : Fin 128), l = ix3 t a b := ⟨_, _, _, eq_ix3 l⟩
    rw [pos_inr, pos_inl] at h
    obtain ⟨h1, h2⟩ := ix2_vals h
    simp only at h1 h2
    split at h2 <;> omega
  · obtain ⟨t, a, b, rfl⟩ : ∃ (t : Fin 98) (a : Fin 16) (b : Fin 128), i = ix3 t a b := ⟨_, _, _, eq_ix3 i⟩
    obtain ⟨t', a', b', rfl⟩ : ∃ (t : Fin 98) (a : Fin 16) (b : Fin 128), l = ix3 t a b := ⟨_, _, _, eq_ix3 l⟩
    rw [pos_inr, pos_inr] at h
    obtain ⟨h1, h2⟩ := ix2_vals h
    simp only at h1 h2
    have key : b.val = b'.val ∧ 16 * t.val + a.val = 16 * t'.val + a'.val := by
      by_cases hb : b.val < 64 <;> by_cases hb' : b'.val < 64
      · rw [if_pos hb, if_pos hb'] at h1 h2; omega
      · rw [if_pos hb, if_neg hb'] at h1 h2; omega
      · rw [if_neg hb, if_pos hb'] at h1 h2; omega
      · rw [if_neg hb, if_neg hb'] at h1 h2; omega
    obtain rfl : b = b' := Fin.ext key.1
    obtain rfl : t = t' := Fin.ext (by omega)
    obtain rfl : a = a' := Fin.ext (by omega)
    rfl

theorem pos_bijective : Function.Bijective pos :=
  (Fintype.bijective_iff_injective_and_card pos).2 ⟨pos_injective, by rw [card_J, Shape.card_idx]; decide⟩

/-- The two parts are the sample. -/
def posEquiv : J ≃ S3136x192.Idx := Equiv.ofBijective pos pos_bijective

variable (x : Vec Bits S1x56x56x192 .f32)

/-- An element's word. -/
def word (i : S3136x192.Idx) : BitVec 32 := k0_pay19 x i

theorem pay20_at (r : Fin 3136) (b : Fin 128) : k0_pay20 x (ix2 r b) = sortableKey (word x (ix2 r ⟨b.val, by omega⟩)) := by
  rw [← select_key]
  have e : extractStridedSlice S3136x128 ![0, 0] (k0_pay19 x) slices_S3136x192_o0_0_S3136x128 (ix2 r b) = word x (ix2 r ⟨b.val, by omega⟩) := by
    unfold word
    pointwise
  rw [← e]
  rfl

theorem pay22_at (q : Fin 1568) (b : Fin 128) : k0_pay22 x (ix2 q b)
    = sortableKey (word x (ix2 ⟨q.val + (if b.val < 64 then 0 else 1568), by split <;> omega⟩
      ⟨b.val + (if b.val < 64 then 128 else 64), by split <;> omega⟩)) := by
  rw [← select_key]
  have e : concatenate S1568x128 1 [⟨S1568x64, extractStridedSlice S1568x64 ![0, 0] (extractStridedSlice S3136x64 ![0, 128] (k0_pay19 x) slices_S3136x192_o0_128_S3136x64) slices_S3136x64_o0_0_S1568x64⟩,
      ⟨S1568x64, extractStridedSlice S1568x64 ![1568, 0] (extractStridedSlice S3136x64 ![0, 128] (k0_pay19 x) slices_S3136x192_o0_128_S3136x64) slices_S3136x64_o1568_0_S1568x64⟩]
      concatenates_S1568x64_S1568x64_S1568x128_d1 (ix2 q b) = word x (ix2 ⟨q.val + (if b.val < 64 then 0 else 1568), by split <;> omega⟩
      ⟨b.val + (if b.val < 64 then 128 else 64), by split <;> omega⟩) := by
    unfold word
    pointwise
    split
    · rename_i h
      refine congrArg (k0_pay19 x) (congrArg₂ ix2 (Fin.ext ?_) (Fin.ext ?_)) <;> simp only [if_pos h] <;> omega
    · rename_i h
      refine congrArg (k0_pay19 x) (congrArg₂ ix2 (Fin.ext ?_) (Fin.ext ?_)) <;> simp only [if_neg h] <;> omega
  rw [← e]
  rfl

theorem splitA (v : IVec S3136x128 16) (t : Fin 196) (a : Fin 16) (b : Fin 128) :
    shapeCast S196x16x128 v shapeCasts_S3136x128_S196x16x128 (ix3 t a b) = v (ix2 ⟨16 * t.val + a.val, by omega⟩ b) :=
  shapeCast_apply _ _ _ _ (by
    rw [rowMajor_val2 _ 128 rfl, rowMajor_val3 _ 2048 128 rfl rfl]
    show (16 * t.val + a.val) * 128 + b.val = t.val * 2048 + a.val * 128 + b.val
    omega)

theorem splitB (v : IVec S1568x128 16) (t : Fin 98) (a : Fin 16) (b : Fin 128) :
    shapeCast S98x16x128 v shapeCasts_S1568x128_S98x16x128 (ix3 t a b) = v (ix2 ⟨16 * t.val + a.val, by omega⟩ b) :=
  shapeCast_apply _ _ _ _ (by
    rw [rowMajor_val2 _ 128 rfl, rowMajor_val3 _ 2048 128 rfl rfl]
    show (16 * t.val + a.val) * 128 + b.val = t.val * 2048 + a.val * 128 + b.val
    omega)

/-- An element's key. -/
def key (i : S3136x192.Idx) : BitVec 32 := sortableKey (word x i)

theorem H_eq (j : J) : H x j = upper (key x (pos j)) := by
  rcases j with i | i
  · obtain ⟨t, a, b, rfl⟩ : ∃ (t : Fin 196) (a : Fin 16) (b : Fin 128), i = ix3 t a b := ⟨_, _, _, eq_ix3 i⟩
    refine (splitA (fun i => upper (k0_pay20 x i)) t a b).trans ?_
    show upper (k0_pay20 x _) = _
    rw [pay20_at]; rfl
  · obtain ⟨t, a, b, rfl⟩ : ∃ (t : Fin 98) (a : Fin 16) (b : Fin 128), i = ix3 t a b := ⟨_, _, _, eq_ix3 i⟩
    refine (splitB (fun i => upper (k0_pay22 x i)) t a b).trans ?_
    show upper (k0_pay22 x _) = _
    rw [pay22_at]; rfl

theorem L_eq (j : J) : L x j = lower (key x (pos j)) := by
  rcases j with i | i
  · obtain ⟨t, a, b, rfl⟩ : ∃ (t : Fin 196) (a : Fin 16) (b : Fin 128), i = ix3 t a b := ⟨_, _, _, eq_ix3 i⟩
    refine (splitA (fun i => lower (k0_pay20 x i)) t a b).trans ?_
    show lower (k0_pay20 x _) = _
    rw [pay20_at]; rfl
  · obtain ⟨t, a, b, rfl⟩ : ∃ (t : Fin 98) (a : Fin 16) (b : Fin 128), i = ix3 t a b := ⟨_, _, _, eq_ix3 i⟩
    refine (splitB (fun i => lower (k0_pay22 x i)) t a b).trans ?_
    show lower (k0_pay22 x _) = _
    rw [pay22_at]; rfl

/-- The threshold's word. -/
def tau : BitVec 32 := sortableKey (joined (hiOf x) (loOf x))

theorem tau_key : (sortableKey (tau x)).toInt = (hiOf x).toInt * 65536 + (loOf x).toInt + 32768 := by
  obtain ⟨h1, h2, h3, h4, -, -⟩ := halves_spec x
  unfold tau
  rw [sortableKey_sortableKey, joined_toInt _ _ h1 h2 h3 h4]

/-- At least 64 elements reach the threshold, -/
theorem tau_many : 64 ≤ many fun i => (sortableKey (tau x)).toInt ≤ (key x i).toInt := by
  refine (halves_spec x).2.2.2.2.1.trans (le_of_eq ?_)
  rw [← many_equiv posEquiv]
  refine many_congr fun j => ?_
  rw [H_eq, L_eq, tau_key, ← halves_toInt (key x (posEquiv j))]
  show _ ≤ (upper (key x (pos j))).toInt * 65536 + (lower (key x (pos j))).toInt ↔ _ ≤ (upper (key x (pos j))).toInt * 65536 + (lower (key x (pos j))).toInt + 32768
  omega

/-- and fewer than 64 are above it. -/
theorem tau_few : (many fun i => (sortableKey (tau x)).toInt < (key x i).toInt) < 64 := by
  refine lt_of_eq_of_lt ?_ (halves_spec x).2.2.2.2.2
  rw [← many_equiv posEquiv]
  refine many_congr fun j => ?_
  rw [H_eq, L_eq, tau_key, ← halves_toInt (key x (posEquiv j))]
  show _ < (upper (key x (pos j))).toInt * 65536 + (lower (key x (pos j))).toInt + 32768 ↔ _ < (upper (key x (pos j))).toInt * 65536 + (lower (key x (pos j))).toInt
  omega

/-- The block stored: an element that reaches the threshold's word stays, any other is zero. -/
theorem kout_eq : kout x = shapeCast S1x56x56x192 (shapeCast S56x56x192
    (select (cmpf .oge (k0_pay19 x) (broadcast S3136x192 (Scalar.ofBits (F := Bits) .f32 (tau x)))) (k0_pay19 x)
      (broadcast S3136x192 (Scalar.ofBits (F := Bits) .f32 0x00000000#32))) shapeCasts_S3136x192_S56x56x192) shapeCasts_S56x56x192_S1x56x56x192 := by
  unfold tau
  rw [← select_key]
  rfl

end Cert.Proof.K

end
-- ==== Proof.RRun.lean ====
/- The reference's run: its lines one after another, and what its result holds at the end. -/
module

public import proofs.«01_k».proof.Reference
public import proofs.«01_k».proof.Proof.Gen.Reference
public import Idealize.ShloMosaic.Lib.StableHlo.Run
public import Idealize.ShloMosaic.Lib.Claim

@[expose] public section

noncomputable section

namespace Cert.Proof.R

open Cert.Reference Cert.Reference.Gen
open Idealize.ShloMosaic Idealize.ShloMosaic.TcCoe Idealize.ShloMosaic.StableHlo Idealize.SL.Sem

variable {F : FTy → Type} [BitOps F]

/-- The reference's lines. -/
abbrev ops : List (HloOp τ sig (Elt F)) :=
  [ StableHlo.reshape main_arg0 main_v0 (rfl : (.f32 : EltTy) = .f32) shapeCasts_S64x192x56x56_S64x602112,
    unary main_v0 main_values (fun x => (Host.topK S64x64 1 (FloatOps.cmpfTotal .gt) x sliceFits_S64x602112_S64x64).1),
    unary main_v0 main_indices (fun x => (Host.topK S64x64 1 (FloatOps.cmpfTotal .gt) x sliceFits_S64x602112_S64x64).2),
    unary main_values main_v1 (extractStridedSlice S64x1 ![0, 63] · slices_S64x64_S64x1_0_63),
    StableHlo.reshape main_v1 main_v2 (rfl : (.f32 : EltTy) = .f32) shapeCasts_S64x1_S64,
    StableHlo.reshape main_v2 main_v3 (rfl : (.f32 : EltTy) = .f32) shapeCasts_S64_S64x1x1x1,
    unary main_v3 main_v4 (broadcastInDim S64x192x56x56 ![0, 1, 2, 3] bcast_S64x1x1x1_S64x192x56x56_0_1_2_3),
    binary main_arg0 main_v4 main_v5 (cmpf .oge),
    nullary main_cst (constant S_ .f32 0x00000000#32),
    unary main_cst main_call0_v0 (broadcastInDim S64x192x56x56 ![] bcast_S_S64x192x56x56),
    ternary main_v5 main_arg0 main_call0_v0 main_v6 select ]

theorem main_eq (c : Dev nD) : main (F := F) c = seq ops := rfl

/-- The sample's elements as one row each, -/
def rows (x : FVec F S64x192x56x56 .f32) : FVec F S64x602112 .f32 := shapeCast S64x602112 x shapeCasts_S64x192x56x56_S64x602112
/-- their 64 largest, -/
def tops (x : FVec F S64x192x56x56 .f32) : FVec F S64x64 .f32 :=
  (Host.topK S64x64 1 (FloatOps.cmpfTotal .gt) (rows x) sliceFits_S64x602112_S64x64).1
/-- and the last of those, the threshold. -/
def thr (x : FVec F S64x192x56x56 .f32) : FVec F S64x1x1x1 .f32 :=
  shapeCast S64x1x1x1 (shapeCast S64 (extractStridedSlice S64x1 ![0, 63] (tops x) slices_S64x64_S64x1_0_63) shapeCasts_S64x1_S64) shapeCasts_S64_S64x1x1x1
/-- What the reference returns. -/
def out (x : FVec F S64x192x56x56 .f32) : FVec F S64x192x56x56 .f32 :=
  select (cmpf .oge x (broadcastInDim S64x192x56x56 ![0, 1, 2, 3] bcast_S64x1x1x1_S64x192x56x56_0_1_2_3 (thr x))) x
    (broadcastInDim S64x192x56x56 ![] bcast_S_S64x192x56x56 (constant S_ .f32 0x00000000#32))

theorem out_eq (V : Valuation τ sig (Elt F)) :
    after ops V (main_v6 : DevRef τ sig) = out (V (main_arg0 : DevRef τ sig)) := by
  after_results
  rfl

theorem arg_eq (V : Valuation τ sig (Elt F)) :
    after ops V (main_arg0 : DevRef τ sig) = V (main_arg0 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., unary_bufs_sub .., unary_bufs_sub .., reshape_bufs_sub .., reshape_bufs_sub ..,
    unary_bufs_sub .., binary_bufs_sub .., nullary_bufs_sub .., unary_bufs_sub .., ternary_bufs_sub ..⟩

/-- The reference ends with its result at `out` of its argument, and its argument as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v6) = out (m ((c.tc : Thread nD τ).loc main_arg0))
        ∧ r.2.mem ((c.tc : Thread nD τ).loc main_arg0) = m ((c.tc : Thread nD τ).loc main_arg0) :=
  (θ_run defs _ _).mono (fun _ h c => ⟨(h c main_v6).trans (out_eq _), (h c main_arg0).trans (arg_eq _)⟩)
    (run_seq scopedRefs_eq scopedSems_eq defs main (fun _ => ops) main_eq (fun _ => ops_sub) m ρ)

end Cert.Proof.R

end
-- ==== Proof.RefTop.lean ====
/- The reference's threshold: the 64th greatest of a sample's elements by their sort keys. -/
module

public import proofs.«01_k».proof.Proof.RRun
public import proofs.«01_k».proof.Proof.Search
public import Idealize.ShloMosaic.Lib.SortKey
public import Idealize.ShloMosaic.Lib.SortFacts
public import Idealize.ShloMosaic.Lib.Pointwise

@[expose] public section

noncomputable section

namespace Cert.Proof.R

open Cert.Reference Cert.Reference.Gen
open Idealize.ShloMosaic
open Cert.Proof.K (many many_mono many_equiv)

/-! ## A sorted row's element number 63 -/

theorem many_below {n : ℕ} : many (fun i : Fin n => i.val < 63) < 64 := by
  classical
  unfold many
  refine lt_of_le_of_lt (Finset.card_le_card_of_injOn (t := Finset.range 63) (fun i => i.val) (fun i hi => ?_) (fun i _ j _ h => Fin.ext h)) (by simp)
  simpa using hi

theorem many_upto {n : ℕ} (hn : 64 ≤ n) : 64 ≤ many (fun i : Fin n => i.val ≤ 63) := by
  classical
  unfold many
  refine le_trans (by simp) (Finset.card_le_card_of_injOn (s := (Finset.univ : Finset (Fin 64))) (fun i => Fin.castLE hn i) (fun i _ => ?_) (fun i _ j _ h => ?_))
  · have := i.isLt
    simp; omega
  · exact Fin.ext (by simpa using congrArg Fin.val h)

/-- A row in descending order of `key` along `σ`: fewer than 64 are above element number 63 and at least 64 reach it. -/
theorem sorted_spec {n : ℕ} (hn : 64 ≤ n) (key : Fin n → ℤ) (σ : Fin n → Fin n) (hσ : Function.Bijective σ)
    (hs : ∀ i j, i < j → key (σ j) ≤ key (σ i)) :
    64 ≤ many (fun k => key (σ ⟨63, by omega⟩) ≤ key k) ∧ many (fun k => key (σ ⟨63, by omega⟩) < key k) < 64 := by
  constructor
  · rw [← many_equiv (Equiv.ofBijective σ hσ)]
    refine (many_upto hn).trans (many_mono fun i hi => ?_)
    show key (σ ⟨63, by omega⟩) ≤ key (σ i)
    rcases Nat.lt_or_ge i.val 63 with h | h
    · exact hs i ⟨63, by omega⟩ h
    · have e : i = ⟨63, by omega⟩ := Fin.ext (by simp only; omega)
      rw [e]
  · rw [← many_equiv (Equiv.ofBijective σ hσ)]
    refine lt_of_le_of_lt (many_mono fun i hi => ?_) (many_below (n := n))
    have hi : key (σ ⟨63, by omega⟩) < key (σ i) := hi
    by_contra h
    rcases Nat.lt_or_ge 63 i.val with h' | h'
    · exact absurd (hs ⟨63, by omega⟩ i h') (not_le.2 hi)
    · have e : i = ⟨63, by omega⟩ := Fin.ext (by simp only; omega)
      rw [e] at hi
      exact lt_irrefl _ hi

/-- A row of words in the order the reference sorts them. -/
theorem sortedFrom_spec {n : ℕ} (hn : 64 ≤ n) (w : Fin n → BitVec 32) :
    64 ≤ many (fun k => (sortableKey (w (sortedFrom (fun k k' => FloatOps.cmpfTotal (F := Bits) (φ := .f32) .gt (w k) (w k') == 1#1) ⟨63, by omega⟩))).toInt ≤ (sortableKey (w k)).toInt)
    ∧ many (fun k => (sortableKey (w (sortedFrom (fun k k' => FloatOps.cmpfTotal (F := Bits) (φ := .f32) .gt (w k) (w k') == 1#1) ⟨63, by omega⟩))).toInt < (sortableKey (w k)).toInt) < 64 := by
  have hB : ∀ k k', (FloatOps.cmpfTotal (F := Bits) (φ := .f32) .gt (w k) (w k') == 1#1) = decide ((sortableKey (w k')).toInt < (sortableKey (w k)).toInt) := by
    intro k k'
    rw [cmpfTotal_f32_eq_cmpi_sortableKey, Bool.eq_iff_iff, beq_iff_eq, decide_eq_true_iff]
    exact K.cmpi_sgt _ _
  refine sorted_spec hn (fun k => (sortableKey (w k)).toInt) _ ⟨sortedFrom_injective _, sortedFrom_surjective _⟩ fun i j hij => ?_
  have h := sortedFrom_noInversion (fun k k' => FloatOps.cmpfTotal (F := Bits) (φ := .f32) .gt (w k) (w k') == 1#1)
    (fun k k' => FloatOps.cmpfTotal (F := Bits) (φ := .f32) .gt (w k) (w k') == 1#1)
    (fun a b hab => by simp only [hB, decide_eq_true_iff, decide_eq_false_iff_not] at hab ⊢; omega)
    (fun a b h => h)
    (fun a b c h1 h2 => by simp only [hB, decide_eq_false_iff_not] at h1 h2 ⊢; omega) i j hij
  simp only [hB, decide_eq_false_iff_not] at h
  simp only [hB]
  omega

variable (x : FVec Bits S64x192x56x56 .f32)

/-- A sample's elements in order. -/
def row (c : Fin 64) (k : Fin 602112) : BitVec 32 := rows x (ix2 c k)
/-- A sample's threshold. -/
def thrWord (c : Fin 64) : BitVec 32 := tops x (ix2 c ⟨63, by decide⟩)

theorem along_row (c : Fin 64) (k k' : Fin 602112) : Shape.Idx.along (s := S64x602112) (ix2 c k) 1 k' = ix2 c k' := by
  funext a
  refine Fin.cases ?_ (fun a => ?_) a
  · rfl
  · obtain rfl : a = 0 := Subsingleton.elim _ _
    rfl

theorem sort2_row (y : IVec S64x602112 32) (c : Fin 64) (p : Fin 602112) :
    (Host.sort2 S64x602112 1 (fun l r => FloatOps.cmpfTotal (F := Bits) (φ := .f32) .gt l.1 r.1) (rows x) y).1 (ix2 c p)
      = row x c (sortedFrom (fun k k' => FloatOps.cmpfTotal (F := Bits) (φ := .f32) .gt (row x c k) (row x c k') == 1#1) p) := by
  unfold Host.sort2
  rw [dif_pos (by decide)]
  show rows x (Shape.Idx.along (s := S64x602112) (ix2 c p) 1 (sortedFrom (n := 602112) (fun k k' =>
    FloatOps.cmpfTotal (F := Bits) (φ := .f32) .gt (rows x (Shape.Idx.along (s := S64x602112) (ix2 c p) 1 k))
      (rows x (Shape.Idx.along (s := S64x602112) (ix2 c p) 1 k')) == 1#1) p)) = _
  simp only [along_row]
  rfl

theorem thrWord_eq (c : Fin 64) : thrWord x c
    = row x c (sortedFrom (fun k k' => FloatOps.cmpfTotal (F := Bits) (φ := .f32) .gt (row x c k) (row x c k') == 1#1) ⟨63, by decide⟩) := by
  unfold thrWord tops Host.topK
  refine Eq.trans ?_ (sort2_row x (fun i => if hd : 1 < S64x602112.rank then iotaInDim S64x602112 32 ⟨1, hd⟩ i else 0#32) c ⟨63, by decide⟩)
  refine congrArg (Host.sort2 S64x602112 1 (fun l r => FloatOps.cmpfTotal (F := Bits) (φ := .f32) .gt l.1 r.1) (rows x) _).1 ?_
  funext a
  refine Fin.cases ?_ (fun a => ?_) a
  · exact Fin.ext (Nat.zero_add _)
  · obtain rfl : a = 0 := Subsingleton.elim _ _
    exact Fin.ext (Nat.zero_add _)

/-- At least 64 of the sample's elements reach its threshold, -/
theorem thr_many (c : Fin 64) : 64 ≤ many fun k => (sortableKey (thrWord x c)).toInt ≤ (sortableKey (row x c k)).toInt := by
  rw [thrWord_eq]
  exact (sortedFrom_spec (by decide) (row x c)).1

/-- and fewer than 64 are above it. -/
theorem thr_few (c : Fin 64) : (many fun k => (sortableKey (thrWord x c)).toInt < (sortableKey (row x c k)).toInt) < 64 := by
  rw [thrWord_eq]
  exact (sortedFrom_spec (by decide) (row x c)).2

/-- An element in its row. -/
theorem row_at (c : Fin 64) (ch : Fin 192) (h w : Fin 56) :
    row x c ⟨ch.val * 3136 + (h.val * 56 + w.val), by omega⟩ = x (ix4 c ch h w) := by
  unfold row rows
  exact shapeCast_apply _ _ _ _ (by
    rw [rowMajor_val4 _ 602112 3136 56 rfl rfl rfl, rowMajor_val2 _ 602112 rfl]
    show c.val * 602112 + ch.val * 3136 + h.val * 56 + w.val = c.val * 602112 + (ch.val * 3136 + (h.val * 56 + w.val))
    omega)

/-- The reference's result at an element. -/
theorem out_at (c : Fin 64) (ch : Fin 192) (h w : Fin 56) :
    out x (ix4 c ch h w) = Scalar.select (FloatOps.cmpf (F := Bits) .oge (x (ix4 c ch h w)) (thrWord x c : Bits .f32)) (x (ix4 c ch h w))
      (Scalar.ofBits (F := Bits) .f32 0x00000000#32) := by
  have e : thr x (ix4 c 0 0 0) = thrWord x c := by
    unfold thr thrWord
    pointwise
  have e' : broadcastInDim S64x192x56x56 ![0, 1, 2, 3] bcast_S64x1x1x1_S64x192x56x56_0_1_2_3 (thr x) (ix4 c ch h w) = thr x (ix4 c 0 0 0) := by
    pointwise
  rw [e] at e'
  unfold out
  show Scalar.select (FloatOps.cmpf (F := Bits) .oge (x (ix4 c ch h w)) (broadcastInDim S64x192x56x56 ![0, 1, 2, 3] bcast_S64x1x1x1_S64x192x56x56_0_1_2_3 (thr x) (ix4 c ch h w))) _ _ = _
  rw [e']
  rfl

end Cert.Proof.R

end
-- ==== Proof.Same.lean ====
/- One sample: the kernel's threshold word is the reference's, and so is every element stored. -/
module

public import proofs.«01_k».proof.Proof.Keys
public import proofs.«01_k».proof.Proof.RefTop

@[expose] public section

noncomputable section

namespace Cert.Proof.K

open Cert.Kernel Cert.Kernel.Gen
open Idealize.ShloMosaic

/-- An element's place in the reference's row. -/
def place (i : S3136x192.Idx) : Fin 602112 :=
  ⟨(i 1 : Fin 192).val * 3136 + (i 0 : Fin 3136).val, by
    have h1 : (i 1 : Fin 192).val < 192 := (i 1 : Fin 192).isLt
    have h0 : (i 0 : Fin 3136).val < 3136 := (i 0 : Fin 3136).isLt
    omega⟩

theorem place_ix2 (r : Fin 3136) (ch : Fin 192) : (place (ix2 r ch)).val = ch.val * 3136 + r.val := rfl

theorem place_injective : Function.Injective place := by
  intro i j h
  obtain ⟨r, ch, rfl⟩ : ∃ (r : Fin 3136) (ch : Fin 192), i = ix2 r ch := ⟨_, _, eq_ix2 i⟩
  obtain ⟨r', ch', rfl⟩ : ∃ (r : Fin 3136) (ch : Fin 192), j = ix2 r ch := ⟨_, _, eq_ix2 j⟩
  have h := congrArg Fin.val h
  rw [place_ix2, place_ix2] at h
  have hr := r.isLt
  have hr' := r'.isLt
  obtain rfl : ch = ch' := Fin.ext (by omega)
  obtain rfl : r = r' := Fin.ext (by omega)
  rfl

theorem place_bijective : Function.Bijective place :=
  (Fintype.bijective_iff_injective_and_card place).2 ⟨place_injective, by rw [Shape.card_idx, Fintype.card_fin]; decide⟩

/-- The sample's elements are the row's. -/
def placeEquiv : S3136x192.Idx ≃ Fin 602112 := Equiv.ofBijective place place_bijective

theorem word_at (b : Vec Bits S1x56x56x192 .f32) (h w : Fin 56) (ch : Fin 192) :
    word b (ix2 ⟨h.val * 56 + w.val, by omega⟩ ch) = b (ix4 0 h w ch) := by
  show shapeCast S3136x192 (shapeCast S56x56x192 b shapeCasts_S1x56x56x192_S56x56x192) shapeCasts_S56x56x192_S3136x192 (ix2 ⟨h.val * 56 + w.val, by omega⟩ ch) = _
  refine (shapeCast_apply _ _ _ (ix3 h w ch) ?_).trans (shapeCast_apply _ _ _ (ix4 0 h w ch) ?_)
  · rw [rowMajor_val2 _ 192 rfl, rowMajor_val3 _ 10752 192 rfl rfl]
    show h.val * 10752 + w.val * 192 + ch.val = (h.val * 56 + w.val) * 192 + ch.val
    omega
  · rw [rowMajor_val4 _ 602112 10752 192 rfl rfl rfl, rowMajor_val3 _ 10752 192 rfl rfl]
    show 0 * 602112 + h.val * 10752 + w.val * 192 + ch.val = h.val * 10752 + w.val * 192 + ch.val
    omega

theorem kout_at (b : Vec Bits S1x56x56x192 .f32) (h w : Fin 56) (ch : Fin 192) :
    kout b (ix4 0 h w ch) = Scalar.select (FloatOps.cmpf (F := Bits) .oge (b (ix4 0 h w ch)) (tau b : Bits .f32)) (b (ix4 0 h w ch))
      (Scalar.ofBits (F := Bits) .f32 0x00000000#32) := by
  rw [kout_eq]
  refine (shapeCast_apply _ _ _ (ix3 h w ch) ?_).trans ((shapeCast_apply _ _ _ (ix2 ⟨h.val * 56 + w.val, by omega⟩ ch) ?_).trans ?_)
  · rw [rowMajor_val4 _ 602112 10752 192 rfl rfl rfl, rowMajor_val3 _ 10752 192 rfl rfl]
    show h.val * 10752 + w.val * 192 + ch.val = 0 * 602112 + h.val * 10752 + w.val * 192 + ch.val
    omega
  · rw [rowMajor_val2 _ 192 rfl, rowMajor_val3 _ 10752 192 rfl rfl]
    show (h.val * 56 + w.val) * 192 + ch.val = h.val * 10752 + w.val * 192 + ch.val
    omega
  · have e := word_at b h w ch
    unfold word at e
    rw [← e]
    rfl

/-- Two words that fewer than 64 elements are above and at least 64 reach are one. -/
theorem threshold_unique {ι : Type} [Fintype ι] (k : ι → ℤ) (u v : BitVec 32)
    (hu : 64 ≤ many fun i => (sortableKey u).toInt ≤ k i) (hu' : (many fun i => (sortableKey u).toInt < k i) < 64)
    (hv : 64 ≤ many fun i => (sortableKey v).toInt ≤ k i) (hv' : (many fun i => (sortableKey v).toInt < k i) < 64) : u = v := by
  apply sortableKey_injective
  apply BitVec.eq_of_toInt_eq
  rcases lt_trichotomy (sortableKey u).toInt (sortableKey v).toInt with h | h | h
  · have := many_mono (P := fun i => (sortableKey v).toInt ≤ k i) (Q := fun i => (sortableKey u).toInt < k i) fun i hi => lt_of_lt_of_le h hi
    omega
  · exact h
  · have := many_mono (P := fun i => (sortableKey u).toInt ≤ k i) (Q := fun i => (sortableKey v).toInt < k i) fun i hi => lt_of_lt_of_le h hi
    omega

variable (b : Vec Bits S1x56x56x192 .f32) (x : FVec Bits Cert.Reference.S64x192x56x56 .f32) (c : Fin 64)

theorem row_place (hb : ∀ (h w : Fin 56) (ch : Fin 192), b (ix4 0 h w ch) = x (ix4 c ch h w)) (i : S3136x192.Idx) :
    R.row x c (place i) = word b i := by
  obtain ⟨r, ch, rfl⟩ : ∃ (r : Fin 3136) (ch : Fin 192), i = ix2 r ch := ⟨_, _, eq_ix2 i⟩
  obtain ⟨h, w, hr⟩ : ∃ h w : Fin 56, r.val = h.val * 56 + w.val :=
    ⟨⟨r.val / 56, by omega⟩, ⟨r.val % 56, by omega⟩, by simp only; omega⟩
  obtain ⟨r, hlt⟩ := r
  obtain rfl : r = h.val * 56 + w.val := hr
  refine Eq.trans ?_ (word_at b h w ch).symm
  rw [hb]
  exact (congrArg (R.row x c) (Fin.ext rfl)).trans (R.row_at x c ch h w)

/-- The kernel's threshold of a sample is the reference's. -/
theorem tau_eq (hb : ∀ (h w : Fin 56) (ch : Fin 192), b (ix4 0 h w ch) = x (ix4 c ch h w)) : tau b = R.thrWord x c := by
  have e : ∀ P : BitVec 32 → Prop, (many fun k => P (sortableKey (R.row x c k))) = many fun i => P (key b i) := by
    intro P
    rw [← many_equiv placeEquiv]
    refine many_congr fun i => ?_
    show P (sortableKey (R.row x c (place i))) ↔ _
    rw [row_place b x c hb]; rfl
  refine threshold_unique (fun i => (key b i).toInt) _ _ (tau_many b) (tau_few b) ?_ ?_
  · exact (R.thr_many x c).trans (le_of_eq (e fun v => (sortableKey (R.thrWord x c)).toInt ≤ v.toInt))
  · exact lt_of_eq_of_lt (e fun v => (sortableKey (R.thrWord x c)).toInt < v.toInt).symm (R.thr_few x c)

/-- What the kernel stores of a sample is the reference's result. -/
theorem kout_same (hb : ∀ (h w : Fin 56) (ch : Fin 192), b (ix4 0 h w ch) = x (ix4 c ch h w)) (h w : Fin 56) (ch : Fin 192) :
    kout b (ix4 0 h w ch) = R.out x (ix4 c ch h w) := by
  rw [kout_at, tau_eq b x c hb, R.out_at, hb]

end Cert.Proof.K

end
-- ==== Proof.Body.lean ====
/- The kernel's program, read back: a load of the input's block, a load whose value is not used, and one store of `K.kout`. -/
module

public import proofs.«01_k».proof.Proof.Model

@[expose] public section

set_option maxRecDepth 65536

noncomputable section

namespace Cert.Proof.K

open Cert.Kernel Cert.Kernel.Gen
open Idealize.ShloMosaic Idealize.SL.Sem

variable {F : FTy → Type} [BitOps F]

variable (i : grid0.Coords) (arg1 : Memref sig .tc .vmem S1x56x56x192 .f32) (harg1 : arg1.IsWhole) (arg2 : Memref sig .tc .vmem S1x56x56x192 .f32) (harg2 : arg2.IsWhole)

/-- One trip of the first search is `step`. -/
theorem trip1_eq (a : IVec S196x16x128 16) (b : IVec S98x16x128 16) (v73 : BitVec 32) (v96 : IVec S7x16x128 16) (v99 v100 : IVec S1x16x128 16)
    (k : Fin k0_t1_loop.trips) (acc : BitVec 32) :
    k0_t1_body (F := F) i arg1 harg1 arg2 harg2 a b v73 v96 v99 v100 k acc = .ret (step a b 64#32 k acc) := by
  unfold k0_t1_body; rw [k0_part1_eq_skeleton]; rfl

/-- One trip of the second search is `step`. -/
theorem trip2_eq (a : IVec S196x16x128 16) (v265 : IVec S98x16x128 1) (v310 v311 : IVec S98x16x128 16) (kk : BitVec 32)
    (k : Fin k0_t2_loop.trips) (acc : BitVec 32) :
    k0_t2_body (F := F) i arg1 harg1 arg2 harg2 a v265 v310 v311 kk k acc = .ret (step a (select v265 v310 v311) kk k acc) := by
  unfold k0_t2_body; rw [k0_part3_eq_skeleton]; rfl

/-- The part that holds the first search. -/
theorem part7_eq (a : IVec S196x16x128 16) (b : IVec S98x16x128 16) (v73 : BitVec 32) (v96 : IVec S7x16x128 16) (v99 v100 : IVec S1x16x128 16)
    (h : BitVec 32)
    (hh : h = Scf.fold (fun (k : Fin k0_t1_loop.trips) acc => step a b 64#32 k acc)
      (Scalar.select (Scalar.cmpi .sge (Scalar.addi v73 (extractAt ![0, 0, 0] (k0_pay30 v96 v99 v100) inpos_S1x1x1_p0_0_0)) 64#32) 0#32 4294934528#32)) :
    k0_part7 (F := F) i arg1 harg1 arg2 harg2 a b v73 v96 v99 v100
      = .ret ⟨h, k0_pay32 h, k0_pay33 a h, k0_pay34 a h, k0_pay35 a h⟩ := by
  subst hh
  rw [k0_part7_eq_skeleton]; unfold k0_part7_skel
  exact (Scf.for_pure_bind _ _ _ _ _ _ _ (trip1_eq (F := F) i arg1 harg1 arg2 harg2 a b v73 v96 v99 v100) _)

/-- The whole block as one access. -/
abbrev r0 : Rect S1x56x56x192 := Rect.unit (s := S1x56x56x192) ![0, 0, 0, 0] S1x56x56x192.size inb_S1x56x56x192_S1x56x56x192_0_0_0_0

/-- What the kernel does, in three operations. -/
def short : Prog (TpuEff nD τ sig (Elt F) Λ₀ .tc) PUnit := do
  let v0 : Vec F S1x56x56x192 .f32 ← Prog.lift (.load arg1 r0.toLoadRect (View.loadsAt_vmem h_S1x56x56x192))
  let _v : Vec F S1x56x56x192 .f32 ← Prog.lift (.load arg2 r0.toLoadRect (View.loadsAt_vmem h_S1x56x56x192))
  Prog.lift (.store arg2 r0 (kout v0) Finset.univ (View.stores_vmem_bits_univ h_S1x56x56x192 rfl) (.inl rfl))
  pure ⟨⟩

theorem hi_eq (x : Vec F S1x56x56x192 .f32) : hiOf x = Scf.fold (fun (k : Fin k0_t1_loop.trips) acc => step (k0_pay21 x) (k0_pay23 x) 64#32 k acc)
      (Scalar.select (Scalar.cmpi .sge (Scalar.addi (Scalar.addi 0#32 (extractAt ![0, 0, 0] (k0_pay26 (k0_pay24 x) (k0_pay25 x)) inpos_S1x1x1_p0_0_0))
        (extractAt ![0, 0, 0] (k0_pay30 (k0_pay27 (k0_pay23 x)) (k0_pay28 (k0_pay23 x)) (k0_pay29 (k0_pay23 x))) inpos_S1x1x1_p0_0_0)) 64#32) 0#32 4294934528#32) := rfl

theorem minA_eq (z : IVec S196x16x128 16) : extractAt ![0, 0, 0] (k0_pay9 z) inpos_S1x1x1_p0_0_0 = minA z := rfl
theorem minB_eq (z : IVec S98x16x128 16) :
    extractAt ![0, 0, 0] (k0_pay3 (k0_pay10 z) (k0_pay11 z) (k0_pay12 z)) inpos_S1x1x1_p0_0_0 = minB z := rfl

theorem fast_eq (x : Vec F S1x56x56x192 .f32) : fast x = Scalar.minsi (minA (k0_pay42 (k0_pay20 x) (k0_pay37 (k0_pay21 x) (k0_pay32 (hiOf x)))))
    (minB (k0_pay2 (k0_pay46 (k0_pay23 x) (k0_pay43 (hiOf x))) (k0_pay48 (k0_pay22 x)))) := rfl

/-- The second search, run. -/
theorem loop2_eq (a : IVec S196x16x128 16) (v265 : IVec S98x16x128 1) (v310 v311 : IVec S98x16x128 16) (kk init : BitVec 32) :
    k0_t2_loop.for k0_t2_ok init (k0_t2_body (F := F) i arg1 harg1 arg2 harg2 a v265 v310 v311 kk)
      = .ret (Scf.fold (fun (k : Fin k0_t2_loop.trips) acc => step a (select v265 v310 v311) kk k acc) init) :=
  Scf.for_pure _ _ _ _ _ _ _ (trip2_eq (F := F) i arg1 harg1 arg2 harg2 a v265 v310 v311 kk)

theorem cntGt_eq (x : Vec F S1x56x56x192 .f32) : cntGt x = Scalar.addi
                    (Scalar.addi (0#32)
                      (extractAt ![0, 0, 0]
                        (k0_pay36 (k0_pay33 (k0_pay21 x) (hiOf x)) (k0_pay34 (k0_pay21 x) (hiOf x))
                          (k0_pay35 (k0_pay21 x) (hiOf x)))
                        inpos_S1x1x1_p0_0_0))
                    (extractAt ![0, 0, 0] (k0_pay45 (k0_pay44 (k0_pay23 x) (hiOf x))) inpos_S1x1x1_p0_0_0) := rfl

theorem sumA_ge_eq (a : IVec S196x16x128 16) : extractAt ![0, 0, 0] (k0_pay15 a) inpos_S1x1x1_p0_0_0 = sumA (cmpi .sge a (spreadA 0#32)) := rfl
theorem sumB_ge_eq (b : IVec S98x16x128 16) : extractAt ![0, 0, 0] (k0_pay4 (k0_pay16 b) k0_pay17 k0_pay18) inpos_S1x1x1_p0_0_0
    = sumB (cmpi .sge b (spreadB 0#32)) := rfl

theorem slow_eq (x : Vec F S1x56x56x192 .f32) : slow x = Scf.fold (fun (k : Fin k0_t2_loop.trips) acc =>
      step (k0_pay41 (k0_pay20 x) (k0_pay37 (k0_pay21 x) (k0_pay32 (hiOf x))))
        (select (k0_pay46 (k0_pay23 x) (k0_pay43 (hiOf x))) (k0_pay48 (k0_pay22 x)) k0_pay49) (Scalar.subi 64#32 (cntGt x)) k acc)
    (start (k0_pay41 (k0_pay20 x) (k0_pay37 (k0_pay21 x) (k0_pay32 (hiOf x))))
      (k0_pay1 (k0_pay46 (k0_pay23 x) (k0_pay43 (hiOf x))) (k0_pay48 (k0_pay22 x)) k0_pay49) (Scalar.subi 64#32 (cntGt x))) := rfl

/-- The kernel's program is `short`. -/
theorem body_eq : cc0__topk_mask_kernel (F := F) i arg1 harg1 arg2 harg2 = short arg1 arg2 := by
  rw [cc0__topk_mask_kernel_eq_skeleton]; unfold cc0__topk_mask_kernel_skel short
  rw [k0_part5_eq_skeleton]; unfold k0_part5_skel
  rw [bind_assoc]
  refine congrArg (Bind.bind _) (funext fun x => ?_)
  rw [pure_bind]
  dsimp only
  rw [k0_part6_eq_skeleton]; unfold k0_part6_skel
  rw [pure_bind]
  dsimp only
  rw [part7_eq (F := F) i arg1 harg1 arg2 harg2 _ _ _ _ _ _ _ (hi_eq x)]
  rw [Prog.bind_ret]
  dsimp only
  rw [k0_part8_eq_skeleton]; unfold k0_part8_skel
  rw [pure_bind]
  dsimp only
  rw [k0_part9_eq_skeleton]; unfold k0_part9_skel
  rw [pure_bind]
  dsimp only
  rw [k0_part10_eq_skeleton]; unfold k0_part10_skel
  rw [pure_bind]
  dsimp only
  split
  · rename_i h
    have hl : kout x = k0_pay6 (k0_pay19 x) (hiOf x) (fast x) := by
      unfold kout; rw [show loOf x = fast x from if_pos h]
    rw [hl, k0_part2_eq_skeleton]; unfold k0_part2_skel
    rw [pure_bind, pure_bind]
    dsimp only
    rw [minA_eq, minB_eq, ← fast_eq]
  · rename_i h
    have hl : kout x = k0_pay6 (k0_pay19 x) (hiOf x) (slow x) := by
      unfold kout; rw [show loOf x = slow x from if_neg h]
    rw [hl, k0_part4_eq_skeleton]; unfold k0_part4_skel
    rw [pure_bind]
    dsimp only
    rw [loop2_eq, Prog.bind_ret, pure_bind, ← cntGt_eq, sumA_ge_eq, sumB_ge_eq, slow_eq]
    rfl

end Cert.Proof.K

end
-- ==== Proof.KRun.lean ====
/- The kernel's run: its body stores `K.kout` of the block it reads, and from there the launch and its frame. -/
module

public import proofs.«01_k».proof.Proof.Body
public import proofs.«01_k».proof.Proof.Gen.Kernel.Launch
public import proofs.«01_k».proof.Proof.Gen.Kernel.Points
public import proofs.«01_k».proof.Proof.Gen.Kernel.Frame
public import Idealize.ShloMosaic.Lib.Pipeline.FrameBody
public import Idealize.ShloMosaic.Lib.Pipeline.FrameSuffix
public import Idealize.ShloMosaic.Lib.Claim
public import Idealize.ShloMosaic.Lib.Tactic

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- What the body leaves in the output's staging buffer, from the input's block. -/
def out (x0 : Vec F S1x56x56x192 .f32) : Vec F S1x56x56x192 .f32 :=
  View.canon [⟨r0, kout (View.ld x0 r0)⟩]

theorem cover (p0 : Vec F S1x56x56x192 .f32) (y : S1x56x56x192.Idx) :
    ∃ pc ∈ ([⟨r0, p0⟩] : List (View.Piece (Elt F) S1x56x56x192 .f32)), y ∈ pc.1.set :=
  View.cover_of_tiled [⟨r0, p0⟩] S1x56x56x192.size (by rfl) y

set_option maxHeartbeats 4000000 in
theorem body_runs (c : Dev nD) (E : Set ℕ) (i : grid0.Coords) (arg1 : Memref sig .tc .vmem S1x56x56x192 .f32) (harg1 : arg1.IsWhole) (arg2 : Memref sig .tc .vmem S1x56x56x192 .f32) (harg2 : arg2.IsWhole)
    (x0 : Vec F S1x56x56x192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc0__topk_mask_kernel i arg1 harg1 arg2 harg2) K := by
  rw [body_eq]; unfold short
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out (iblk m c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = out (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the inputs' memrefs hold their blocks (`before0_W`), so `body_runs` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (body_runs c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument array ends unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- The kernel's frame: the argument array ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Proof.K

end
-- ==== Proof.KValue.lean ====
/- What the kernel's program leaves in its result: the reference's value of the argument. -/
module

public import proofs.«01_k».proof.Proof.Same
public import proofs.«01_k».proof.Proof.KRun
public import Idealize.ShloMosaic.Lib.Pipeline.ValueKit

@[expose] public section

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.Sem
open Idealize.ShloMosaic.Pipeline (Dat Cfg Window)

/-- Channels last, at coordinates. -/
theorem last_at {α : Type} (x : S64x192x56x56.Idx → α) (c : Fin 64) (h w : Fin 56) (ch : Fin 192) :
    transpose S64x56x56x192 [0, 2, 3, 1] x transposes_S64x192x56x56_S64x56x56x192_0_2_3_1 (ix4 c h w ch) = x (ix4 c ch h w) :=
  transpose_apply _ x _ _ (ix4 c ch h w) fun b => by fin_cases b <;> rfl

/-- Channels second again, at coordinates. -/
theorem second_at {α : Type} (x : S64x56x56x192.Idx → α) (c : Fin 64) (h w : Fin 56) (ch : Fin 192) :
    transpose S64x192x56x56 [0, 3, 1, 2] x transposes_S64x56x56x192_S64x192x56x56_0_3_1_2 (ix4 c ch h w) = x (ix4 c h w ch) :=
  transpose_apply _ x _ _ (ix4 c h w ch) fun b => by fin_cases b <;> rfl

variable (m : (ℓ : Loc nD τ sig) → Buf (Elt Bits) ℓ)

/-- The argument. -/
abbrev arg (c : Dev nD) : FVec Bits S64x192x56x56 .f32 := m ((c.tc : Thread nD τ).loc main_arg0)

/-- The reference's result, channels last. -/
def G (c : Dev nD) : FVec Bits S64x56x56x192 .f32 :=
  transpose S64x56x56x192 [0, 2, 3, 1] (R.out (arg m c)) transposes_S64x192x56x56_S64x56x56x192_0_2_3_1

/-- The region finds the argument, channels last. -/
theorem V_main_v0 (c : Dev nD) :
    V m c main_v0 = transpose S64x56x56x192 [0, 2, 3, 1] (arg m c) transposes_S64x192x56x56_S64x56x56x192_0_2_3_1 := by
  simp only [V, V0, hostOps0, List.flatten_cons, List.flatten_nil, List.append_nil]
  after_results

/-- Each point works on the sample of its number. -/
theorem index0 : ∀ t : Fin cfg0.N, win0_0.index t = ![t.val, 0, 0, 0] := (by decide +kernel : ∀ t : Fin grid0.N, _)
theorem index1 : ∀ t : Fin cfg0.N, win0_1.index t = ![t.val, 0, 0, 0] := (by decide +kernel : ∀ t : Fin grid0.N, _)

theorem points_lt (t : Fin cfg0.N) : t.val < 64 := lt_of_lt_of_eq t.isLt (by decide)

/-- The block found at a point is its sample. -/
theorem block_at (c : Dev nD) (t : Fin cfg0.N) (h w : Fin 56) (ch : Fin 192) :
    iblk m c 0 t (ix4 0 h w ch) = arg m c (ix4 ⟨t.val, points_lt t⟩ ch h w) := by
  rw [← last_at (arg m c)]
  blk_simp [iblk]
  show V m c main_v0 _ = _
  rw [V_main_v0]
  congr 1
  blk_ext [index0]

/-- The result array of the region. -/
theorem result (c : Dev nD) : (dats m 0 c).arrAt 1 cfg0.N = G m c := by
  refine (dats m 0 c).arrAt_eq_of_covers 1 _ (by decide +kernel) fun t hf y => ?_
  blk_simp
  rw [after0_1]
  obtain ⟨z, h, w, ch, rfl⟩ : ∃ (z : Fin 1) (h w : Fin 56) (ch : Fin 192), y = ix4 z h w ch := ⟨_, _, _, _, eq_ix4 y⟩
  obtain rfl : z = 0 := Subsingleton.elim _ _
  have e : (win0_1.blk t).view.emb (ix4 0 h w ch) = ix4 ⟨t.val, points_lt t⟩ h w ch := by
    blk_ext [index1]
  unfold out
  frame_out
  refine (kout_same _ (arg m c) ⟨t.val, points_lt t⟩ (block_at m c t) h w ch).trans ?_
  refine (last_at (R.out (arg m c)) ⟨t.val, points_lt t⟩ h w ch).symm.trans ?_
  exact congrArg (G m c) e.symm

/-- What the lines after the region leave in the program's result. -/
theorem W_main_v2 (c : Dev nD) :
    Pipeline.afterTail₀ cfgs (dats m) 0 (V0 m) [hostOps1] c main_v2 = R.out (arg m c) := by
  unfold Pipeline.afterTail₀
  simp only [hostOps1, List.flatten_cons, List.flatten_nil, List.append_nil]
  after_results
  have e := Pipeline.withArrays_arr spec0 launch0.win.arr_inj c (V0 m c) (fun w => (dats m 0 c).arrAt w cfg0.N) 1
  rw [result] at e
  refine (congrArg (fun x => transpose S64x192x56x56 [0, 3, 1, 2] x transposes_S64x56x56x192_S64x192x56x56_0_3_1_2) e).trans ?_
  funext i
  obtain ⟨c', ch, h, w, rfl⟩ : ∃ (c' : Fin 64) (ch : Fin 192) (h w : Fin 56), i = ix4 c' ch h w := ⟨_, _, _, _, eq_ix4 i⟩
  exact (second_at (G m c) c' h w ch).trans (last_at (R.out (arg m c)) c' h w ch)

/-- The kernel's program leaves the reference's value in its result, and the argument as it was. -/
theorem run_value (ρ : Dev nD → PrngReg) : θ_run defs (onTc (τ := τ) (main (F := Bits))) ⟨m, fun _ => 0, ρ⟩ (fun r => ∀ c : Dev nD,
      r.2.mem ((c.tc : Thread nD τ).loc main_v2) = R.out (arg m c)
      ∧ r.2.mem ((c.tc : Thread nD τ).loc main_arg0) = m ((c.tc : Thread nD τ).loc main_arg0)) :=
  (θ_run defs _ _).mono (fun _ h c =>
    ⟨((h.1 c).2 main_v2 (Pipeline.mem_restRefs_of main_v2 (by decide) (by decide))).trans (W_main_v2 m c), h.2 c⟩)
    (θ_run_and (run_main m ρ) (unchanged m ρ))

end Cert.Proof.K

end
-- ==== Proof.lean ====
module

public import proofs.«01_k».proof.Defs
public import proofs.«01_k».proof.Proof.KValue
public import proofs.«01_k».proof.Proof.RRun
public import Idealize.ShloMosaic.Lib.Quiescent

@[expose] public section

noncomputable section

namespace Cert.Proof

open Idealize.ShloMosaic Idealize.SL.Sem

theorem frame_kernel : Cert.quiescent_Kernel := fun m ρ _ => K.frame m ρ

theorem frame_reference : Cert.quiescent_Reference := by
  intro m ρ _
  exact (θ_run Cert.Reference.defs _ _).mono (fun r h => ⟨fun c => (h c).2, sem_eq_zero_of_no_sems (by decide) r.2⟩)
    (R.run_main (F := Bits) m ρ)

theorem bitexact : Cert.bitexact_Kernel_Reference := by
  intro m ρ m' ρ' _ hin
  refine ⟨fun c => R.out (K.arg m c), K.run_value m ρ, (θ_run Cert.Reference.defs _ _).mono (fun r h c => ⟨(h c).1.trans ?_, (h c).2⟩)
    (R.run_main (F := Bits) m' ρ')⟩
  exact congrArg R.out (hin c)

theorem claim : Cert.Claim := ⟨Cert.Kernel.Gen.facts, Cert.Reference.Gen.facts, frame_kernel, frame_reference, bitexact⟩

end Cert.Proof

end
